-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4096x1024 : Shape := ⟨2, ![4096, 1024]⟩
abbrev S1024 : Shape := ⟨1, ![1024]⟩
abbrev S102 : Shape := ⟨1, ![102]⟩
abbrev S1024x1000 : Shape := ⟨2, ![1024, 1000]⟩
abbrev S_ : Shape := ⟨0, ![]⟩
abbrev S101 : Shape := ⟨1, ![101]⟩

class Facts : Prop where
  bcast_S_S1024 : S_.BroadcastsInDim S1024 (![] : Fin 0 → Fin S1024.rank)
  reducesTo_S1024_S_d0 : S1024.ReducesTo [0] S_
  h_S_ : 0 < S_.numel
  slices_S102_S101_0 : S102.Slices ![0] S101
  slices_S102_S101_1 : S102.Slices ![1] S101
  reducesTo_S101_S_d0 : S101.ReducesTo [0] S_
  bcast_S_S1024x1000 : S_.BroadcastsInDim S1024x1000 (![] : Fin 0 → Fin S1024x1000.rank)
  reducesTo_S1024x1000_S_d0_1 : S1024x1000.ReducesTo [0, 1] S_

variable [Facts]

def fn_part2 {F : FTy → Type} [FloatOps F] (main_arg10 : FVec F S1024x1000 .f32) (main_v18 : IVec S_ 1) (main_v29 : IVec S_ 1) (main_v32 : IVec S101 1) (main_c_12 : IVec S_ 1) : IVec S_ 1 :=
  let main_v33 : IVec S_ 1 := (fun x v => Host.reduce IntOp.andi x v reducesTo_S101_S_d0 h_S_) main_v32 main_c_12
  let main_cst_13 : FVec F S_ .f32 := constant S_ .f32 0x7149F2CA#32
  let main_v34 : FVec F S1024x1000 .f32 := broadcastInDim S1024x1000 ![] bcast_S_S1024x1000 main_cst_13
  let main_v35 : IVec S1024x1000 1 := cmpf .ole main_arg10 main_v34
  let main_c_14 : IVec S_ 1 := constantI S_ 1 1#1
  let main_v36 : IVec S_ 1 := (fun x v => Host.reduce IntOp.andi x v reducesTo_S1024x1000_S_d0_1 h_S_) main_v35 main_c_14
  let main_v37 : IVec S_ 1 := andi main_v36 main_v33
  let main_v38 : IVec S_ 1 := andi main_v18 main_v29
  let main_v39 : IVec S_ 1 := andi main_v37 main_v38
  main_v39

def fn_part1 {F : FTy → Type} [FloatOps F] (main_arg4 : FVec F S1024 .f32) (main_arg8 : FVec F S1024 .f32) (main_arg9 : FVec F S102 .f32) (main_arg10 : FVec F S1024x1000 .f32) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v12 main_v16
  let main_v18 : IVec S_ 1 := andi main_v8 main_v17
  let main_cst_6 : FVec F S_ .f32 := constant S_ .f32 0x3727C5AC#32
  let main_v19 : FVec F S1024 .f32 := broadcastInDim S1024 ![] bcast_S_S1024 main_cst_6
  let main_v20 : FVec F S1024 .f32 := addf main_arg4 main_v19
  let main_cst_7 : FVec F S_ .f32 := constant S_ .f32 0x00000000#32
  let main_v21 : FVec F S1024 .f32 := broadcastInDim S1024 ![] bcast_S_S1024 main_cst_7
  let main_v22 : IVec S1024 1 := cmpf .une main_v20 main_v21
  let main_c_8 : IVec S_ 1 := constantI S_ 1 1#1
  let main_v23 : IVec S_ 1 := (fun x v => Host.reduce IntOp.andi x v reducesTo_S1024_S_d0 h_S_) main_v22 main_c_8
  let main_cst_9 : FVec F S_ .f32 := constant S_ .f32 0x3727C5AC#32
  let main_v24 : FVec F S1024 .f32 := broadcastInDim S1024 ![] bcast_S_S1024 main_cst_9
  let main_v25 : FVec F S1024 .f32 := addf main_arg8 main_v24
  let main_cst_10 : FVec F S_ .f32 := constant S_ .f32 0x00000000#32
  let main_v26 : FVec F S1024 .f32 := broadcastInDim S1024 ![] bcast_S_S1024 main_cst_10
  let main_v27 : IVec S1024 1 := cmpf .une main_v25 main_v26
  let main_c_11 : IVec S_ 1 := constantI S_ 1 1#1
  let main_v28 : IVec S_ 1 := (fun x v => Host.reduce IntOp.andi x v reducesTo_S1024_S_d0 h_S_) main_v27 main_c_11
  let main_v29 : IVec S_ 1 := andi main_v23 main_v28
  let main_v30 : FVec F S101 .f32 := (extractStridedSlice S101 ![0] · slices_S102_S101_0) main_arg9
  let main_v31 : FVec F S101 .f32 := (extractStridedSlice S101 ![1] · slices_S102_S101_1) main_arg9
  let main_v32 : IVec S101 1 := cmpf .ole main_v30 main_v31
  let main_c_12 : IVec S_ 1 := constantI S_ 1 1#1
  fn_part2 (F := F) main_arg10 main_v18 main_v29 main_v32 main_c_12

def fn {F : FTy → Type} [FloatOps F] (main_arg0 : FVec F S4096x1024 .f32) (main_arg1 : FVec F S1024 .f32) (main_arg2 : FVec F S1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg9 : FVec F S102 .f32) (main_arg10 : FVec F S1024x1000 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024 .f32 := Host.absf main_arg7
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg8 main_arg9 main_arg10 main_v8 main_v12 main_v15 main_c_5
-- ==== Kernel.lean ====
abbrev S4096x1024 : Shape := ⟨2, ![4096, 1024]⟩
abbrev S1024 : Shape := ⟨1, ![1024]⟩
abbrev S102 : Shape := ⟨1, ![102]⟩
abbrev S1024x1000 : Shape := ⟨2, ![1024, 1000]⟩
abbrev S_ : Shape := ⟨0, ![]⟩
abbrev S1024x1 : Shape := ⟨2, ![1024, 1]⟩
abbrev S1024x22 : Shape := ⟨2, ![1024, 22]⟩
abbrev S1024x1024 : Shape := ⟨2, ![1024, 1024]⟩
abbrev S26 : Shape := ⟨1, ![26]⟩
abbrev S128 : Shape := ⟨1, ![128]⟩
abbrev S1x128 : Shape := ⟨2, ![1, 128]⟩
abbrev S128x1024 : Shape := ⟨2, ![128, 1024]⟩
abbrev S4096x128 : Shape := ⟨2, ![4096, 128]⟩
abbrev S128x1 : Shape := ⟨2, ![128, 1]⟩
abbrev S8x128 : Shape := ⟨2, ![8, 128]⟩
abbrev S1x1024 : Shape := ⟨2, ![1, 1024]⟩
abbrev S128x1023 : Shape := ⟨2, ![128, 1023]⟩
abbrev S128x1022 : Shape := ⟨2, ![128, 1022]⟩
abbrev S128x2 : Shape := ⟨2, ![128, 2]⟩
abbrev S128x1020 : Shape := ⟨2, ![128, 1020]⟩
abbrev S128x4 : Shape := ⟨2, ![128, 4]⟩
abbrev S128x1016 : Shape := ⟨2, ![128, 1016]⟩
abbrev S128x8 : Shape := ⟨2, ![128, 8]⟩
abbrev S128x1008 : Shape := ⟨2, ![128, 1008]⟩
abbrev S128x16 : Shape := ⟨2, ![128, 16]⟩
abbrev S128x992 : Shape := ⟨2, ![128, 992]⟩
abbrev S128x32 : Shape := ⟨2, ![128, 32]⟩
abbrev S128x960 : Shape := ⟨2, ![128, 960]⟩
abbrev S128x64 : Shape := ⟨2, ![128, 64]⟩
abbrev S128x896 : Shape := ⟨2, ![128, 896]⟩
abbrev S128x128 : Shape := ⟨2, ![128, 128]⟩
abbrev S128x768 : Shape := ⟨2, ![128, 768]⟩
abbrev S128x256 : Shape := ⟨2, ![128, 256]⟩
abbrev S128x512 : Shape := ⟨2, ![128, 512]⟩
abbrev S128x128x1 : Shape := ⟨3, ![128, 128, 1]⟩
abbrev S128x4096 : Shape := ⟨2, ![128, 4096]⟩

abbrev nBuf : Space → Nat
  | .hbm => 43
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S102, .f32⟩
  | .hbm, ⟨10, _⟩ => ⟨S1024x1000, .f32⟩
  | .hbm, ⟨11, _⟩ => ⟨S_, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S_, .f32⟩
  | .hbm, ⟨16, _⟩ => ⟨S1024x22, .f32⟩
  | .hbm, ⟨17, _⟩ => ⟨S1024x1024, .f32⟩
  | .hbm, ⟨18, _⟩ => ⟨S_, .f32⟩
  | .hbm, ⟨19, _⟩ => ⟨S26, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S4096x128, .f32⟩
  | .local _ .vmem, ⟨14, _⟩ => ⟨S4096x128, .f32⟩
  | .local _ .vmem, ⟨15, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x1024 : Shape := ⟨2, ![4096, 1024]⟩
abbrev S1024 : Shape := ⟨1, ![1024]⟩
abbrev S102 : Shape := ⟨1, ![102]⟩
abbrev S1024x1000 : Shape := ⟨2, ![1024, 1000]⟩
abbrev S1x1024 : Shape := ⟨2, ![1, 1024]⟩
abbrev S_ : Shape := ⟨0, ![]⟩
abbrev S1024x1 : Shape := ⟨2, ![1024, 1]⟩
abbrev S1024x1002 : Shape := ⟨2, ![1024, 1002]⟩
abbrev S1024x1002x1 : Shape := ⟨3, ![1024, 1002, 1]⟩
abbrev S1 : Shape := ⟨1, ![1]⟩
abbrev S1x1x1 : Shape := ⟨3, ![1, 1, 1]⟩
abbrev S1x102 : Shape := ⟨2, ![1, 102]⟩
abbrev S1024x102 : Shape := ⟨2, ![1024, 102]⟩
abbrev S1024x1x1002 : Shape := ⟨3, ![1024, 1, 1002]⟩
abbrev S1024x102x1 : Shape := ⟨3, ![1024, 102, 1]⟩
abbrev S1024x102x1002 : Shape := ⟨3, ![1024, 102, 1002]⟩
abbrev S1024x4096 : Shape := ⟨2, ![1024, 4096]⟩
abbrev S1024x1x102 : Shape := ⟨3, ![1024, 1, 102]⟩
abbrev S1024x4096x1 : Shape := ⟨3, ![1024, 4096, 1]⟩
abbrev S1024x4096x102 : Shape := ⟨3, ![1024, 4096, 102]⟩

abbrev nBuf : Space → Nat
  | .hbm => 300
  | .vmem => 0
  | .smem => 0
  | _ => 0

abbrev hbmTy0_0 (i : Nat) : BufTy := match i % 128 with
  | 0 => ⟨S4096x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S102, .f32⟩
  | 10 => ⟨S1024x1000, .f32⟩
  | 11 => ⟨S1x1024, .f32⟩
  | 12 => ⟨S4096x1024, .f32⟩
  | 13 => ⟨S4096x1024, .f32⟩
  | 14 => ⟨S_, .f32⟩
  | 15 => ⟨S1024, .f32⟩
  | 16 => ⟨S1024, .f32⟩
  | 17 => ⟨S1024, .f32⟩
  | 18 => ⟨S1x1024, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S_, .f32⟩
  | 28 => ⟨S1024x1, .f32⟩
  | 29 => ⟨S_, .f32⟩
  | 30 => ⟨S1024x1, .f32⟩
  | 31 => ⟨S1024x1, .f32⟩
  | 32 => ⟨S_, .f32⟩
  | 33 => ⟨S1024x1, .f32⟩
  | 34 => ⟨S_, .f32⟩
  | 35 => ⟨S1024x1, .f32⟩
  | 36 => ⟨S1024x1, .f32⟩
  | 37 => ⟨S1024x1002, .f32⟩
  | 38 => ⟨S_, .f32⟩
  | 39 => ⟨S1024x1002, .f32⟩
  | 40 => ⟨S1024x1002, .i1⟩
  | 41 => ⟨S_, .f32⟩
  | 42 => ⟨S1024x1002, .f32⟩
  | 43 => ⟨S1024x1002, .i1⟩
  | 44 => ⟨S1024x1002, .i32⟩
  | 45 => ⟨S_, .i32⟩
  | 46 => ⟨S1024, .i32⟩
  | 47 => ⟨S1024x1, .i32⟩
  | 48 => ⟨S1024x1002, .i32⟩
  | 49 => ⟨S_, .i32⟩
  | 50 => ⟨S1024, .i32⟩
  | 51 => ⟨S1024x1, .i32⟩
  | 52 => ⟨S1024x1002, .f32⟩
  | 53 => ⟨S_, .i32⟩
  | 54 => ⟨S1024x1, .i32⟩
  | 55 => ⟨S1024x1, .i1⟩
  | 56 => ⟨S_, .i32⟩
  | 57 => ⟨S_, .i32⟩
  | 58 => ⟨S1024x1, .i32⟩
  | 59 => ⟨S1024x1, .i32⟩
  | 60 => ⟨S1024x1, .f32⟩
  | 61 => ⟨S1024x1002, .f32⟩
  | 62 => ⟨S1024x1002, .f32⟩
  | 63 => ⟨S1024x1002, .f32⟩
  | 64 => ⟨S_, .i32⟩
  | 65 => ⟨S1024x1, .i32⟩
  | 66 => ⟨S1024x1, .i1⟩
  | 67 => ⟨S_, .i32⟩
  | 68 => ⟨S_, .i32⟩
  | 69 => ⟨S1024x1, .i32⟩
  | 70 => ⟨S1024x1, .i32⟩
  | 71 => ⟨S1024x1, .f32⟩
  | 72 => ⟨S1024x1002, .f32⟩
  | 73 => ⟨S1024x1002, .f32⟩
  | 74 => ⟨S1024x1002, .f32⟩
  | 75 => ⟨S_, .f32⟩
  | 76 => ⟨S1024x1002, .f32⟩
  | 77 => ⟨S1024x1002, .f32⟩
  | 78 => ⟨S1024x1002, .i32⟩
  | 79 => ⟨S1024x1002, .f32⟩
  | 80 => ⟨S1024x1002, .i32⟩
  | 81 => ⟨S_, .i32⟩
  | 82 => ⟨S1024x1002, .i32⟩
  | 83 => ⟨S1024x1002, .i1⟩
  | 84 => ⟨S_, .i32⟩
  | 85 => ⟨S1024x1002, .i32⟩
  | 86 => ⟨S1024x1002, .i32⟩
  | 87 => ⟨S1024x1002, .i32⟩
  | 88 => ⟨S1024x1002x1, .i32⟩
  | 89 => ⟨S1, .i32⟩
  | 90 => ⟨S_, .i32⟩
  | 91 => ⟨S1024x1002x1, .i32⟩
  | 92 => ⟨S1024x1002x1, .i1⟩
  | 93 => ⟨S1x1x1, .i32⟩
  | 94 => ⟨S1024x1002x1, .i32⟩
  | 95 => ⟨S1024x1002x1, .i1⟩
  | 96 => ⟨S1024x1002x1, .i1⟩
  | 97 => ⟨S_, .i1⟩
  | 98 => ⟨S1024x1002, .i1⟩
  | 99 => ⟨S1024x1002, .f32⟩
  | 100 => ⟨S_, .f32⟩
  | 101 => ⟨S1024x1002, .f32⟩
  | 102 => ⟨S1024x1002, .f32⟩
  | 103 => ⟨S_, .i32⟩
  | 104 => ⟨S1024x1002, .i32⟩
  | 105 => ⟨S1024x1002, .i1⟩
  | 106 => ⟨S_, .i32⟩
  | 107 => ⟨S1024x1002, .i32⟩
  | 108 => ⟨S1024x1002, .i32⟩
  | 109 => ⟨S1024x1002, .i32⟩
  | 110 => ⟨S1024x1002x1, .i32⟩
  | 111 => ⟨S1, .i32⟩
  | 112 => ⟨S_, .i32⟩
  | 113 => ⟨S1024x1002x1, .i32⟩
  | 114 => ⟨S1024x1002x1, .i1⟩
  | 115 => ⟨S1x1x1, .i32⟩
  | 116 => ⟨S1024x1002x1, .i32⟩
  | 117 => ⟨S1024x1002x1, .i1⟩
  | 118 => ⟨S1024x1002x1, .i1⟩
  | 119 => ⟨S_, .i1⟩
  | 120 => ⟨S1024x1002, .i1⟩
  | 121 => ⟨S1024x1002, .f32⟩
  | 122 => ⟨S_, .f32⟩
  | 123 => ⟨S1024x1002, .f32⟩
  | 124 => ⟨S1024x1002, .f32⟩
  | 125 => ⟨S_, .f32⟩
  | 126 => ⟨S_, .f32⟩
  | 127 => ⟨S1024x1002, .f32⟩
  | _ => ⟨S4096x1024, .f32⟩

abbrev hbmTy0_1 (i : Nat) : BufTy := match i % 128 with
  | 0 => ⟨S1024x1, .f32⟩
  | 1 => ⟨S1x102, .f32⟩
  | 2 => ⟨S1024x102, .f32⟩
  | 3 => ⟨S1024x102, .f32⟩
  | 4 => ⟨S1024x102, .f32⟩
  | 5 => ⟨S1024x1x1002, .f32⟩
  | 6 => ⟨S1024x102x1, .f32⟩
  | 7 => ⟨S1024x102x1002, .f32⟩
  | 8 => ⟨S1024x102x1002, .f32⟩
  | 9 => ⟨S1024x102x1002, .i1⟩
  | 10 => ⟨S1024x102x1002, .i32⟩
  | 11 => ⟨S_, .i32⟩
  | 12 => ⟨S1024x102, .i32⟩
  | 13 => ⟨S_, .i32⟩
  | 14 => ⟨S1024x102, .i32⟩
  | 15 => ⟨S1024x102, .i32⟩
  | 16 => ⟨S_, .i32⟩
  | 17 => ⟨S_, .i32⟩
  | 18 => ⟨S_, .i32⟩
  | 19 => ⟨S1024x102, .i32⟩
  | 20 => ⟨S1024x102, .i32⟩
  | 21 => ⟨S_, .i32⟩
  | 22 => ⟨S1024x102, .i32⟩
  | 23 => ⟨S1024x102, .i32⟩
  | 24 => ⟨S_, .i32⟩
  | 25 => ⟨S_, .i32⟩
  | 26 => ⟨S_, .i32⟩
  | 27 => ⟨S1024x102, .i32⟩
  | 28 => ⟨S1024x102, .i32⟩
  | 29 => ⟨S_, .i32⟩
  | 30 => ⟨S1024x102, .i32⟩
  | 31 => ⟨S1024x102, .i32⟩
  | 32 => ⟨S_, .i32⟩
  | 33 => ⟨S1024x102, .i32⟩
  | 34 => ⟨S1024x102, .i1⟩
  | 35 => ⟨S_, .i32⟩
  | 36 => ⟨S1024x102, .i32⟩
  | 37 => ⟨S1024x102, .i32⟩
  | 38 => ⟨S1024x102, .i32⟩
  | 39 => ⟨S1024x102x1, .i32⟩
  | 40 => ⟨S1, .i32⟩
  | 41 => ⟨S_, .i32⟩
  | 42 => ⟨S1024x102x1, .i32⟩
  | 43 => ⟨S1024x102x1, .i1⟩
  | 44 => ⟨S1x1x1, .i32⟩
  | 45 => ⟨S1024x102x1, .i32⟩
  | 46 => ⟨S1024x102x1, .i1⟩
  | 47 => ⟨S1024x102x1, .i1⟩
  | 48 => ⟨S_, .i1⟩
  | 49 => ⟨S1024x102, .i1⟩
  | 50 => ⟨S1024x102, .f32⟩
  | 51 => ⟨S_, .f32⟩
  | 52 => ⟨S1024x102, .f32⟩
  | 53 => ⟨S1024x102, .f32⟩
  | 54 => ⟨S_, .i32⟩
  | 55 => ⟨S1024x102, .i32⟩
  | 56 => ⟨S1024x102, .i1⟩
  | 57 => ⟨S_, .i32⟩
  | 58 => ⟨S1024x102, .i32⟩
  | 59 => ⟨S1024x102, .i32⟩
  | 60 => ⟨S1024x102, .i32⟩
  | 61 => ⟨S1024x102x1, .i32⟩
  | 62 => ⟨S1, .i32⟩
  | 63 => ⟨S_, .i32⟩
  | 64 => ⟨S1024x102x1, .i32⟩
  | 65 => ⟨S1024x102x1, .i1⟩
  | 66 => ⟨S1x1x1, .i32⟩
  | 67 => ⟨S1024x102x1, .i32⟩
  | 68 => ⟨S1024x102x1, .i1⟩
  | 69 => ⟨S1024x102x1, .i1⟩
  | 70 => ⟨S_, .i1⟩
  | 71 => ⟨S1024x102, .i1⟩
  | 72 => ⟨S1024x102, .f32⟩
  | 73 => ⟨S_, .f32⟩
  | 74 => ⟨S1024x102, .f32⟩
  | 75 => ⟨S1024x102, .f32⟩
  | 76 => ⟨S_, .i32⟩
  | 77 => ⟨S1024x102, .i32⟩
  | 78 => ⟨S1024x102, .i1⟩
  | 79 => ⟨S_, .i32⟩
  | 80 => ⟨S1024x102, .i32⟩
  | 81 => ⟨S1024x102, .i32⟩
  | 82 => ⟨S1024x102, .i32⟩
  | 83 => ⟨S1024x102x1, .i32⟩
  | 84 => ⟨S1, .i32⟩
  | 85 => ⟨S_, .i32⟩
  | 86 => ⟨S1024x102x1, .i32⟩
  | 87 => ⟨S1024x102x1, .i1⟩
  | 88 => ⟨S1x1x1, .i32⟩
  | 89 => ⟨S1024x102x1, .i32⟩
  | 90 => ⟨S1024x102x1, .i1⟩
  | 91 => ⟨S1024x102x1, .i1⟩
  | 92 => ⟨S_, .i1⟩
  | 93 => ⟨S1024x102, .i1⟩
  | 94 => ⟨S1024x102, .f32⟩
  | 95 => ⟨S_, .f32⟩
  | 96 => ⟨S1024x102, .f32⟩
  | 97 => ⟨S1024x102, .f32⟩
  | 98 => ⟨S_, .i32⟩
  | 99 => ⟨S1024x102, .i32⟩
  | 100 => ⟨S1024x102, .i1⟩
  | 101 => ⟨S_, .i32⟩
  | 102 => ⟨S1024x102, .i32⟩
  | 103 => ⟨S1024x102, .i32⟩
  | 104 => ⟨S1024x102, .i32⟩
  | 105 => ⟨S1024x102x1, .i32⟩
  | 106 => ⟨S1, .i32⟩
  | 107 => ⟨S_, .i32⟩
  | 108 => ⟨S1024x102x1, .i32⟩
  | 109 => ⟨S1024x102x1, .i1⟩
  | 110 => ⟨S1x1x1, .i32⟩
  | 111 => ⟨S1024x102x1, .i32⟩
  | 112 => ⟨S1024x102x1, .i1⟩
  | 113 => ⟨S1024x102x1, .i1⟩
  | 114 => ⟨S_, .i1⟩
  | 115 => ⟨S1024x102, .i1⟩
  | 116 => ⟨S1024x102, .f32⟩
  | 117 => ⟨S_, .f32⟩
  | 118 => ⟨S1024x102, .f32⟩
  | 119 => ⟨S1024x102, .f32⟩
  | 120 => ⟨S1024x102, .f32⟩
  | 121 => ⟨S1024x102, .f32⟩
  | 122 => ⟨S_, .f32⟩
  | 123 => ⟨S1024x102, .f32⟩
  | 124 => ⟨S1024x102, .f32⟩
  | 125 => ⟨S1024x102, .f32⟩
  | 126 => ⟨S1024x102, .f32⟩
  | 127 => ⟨S1024x102, .f32⟩
  | _ => ⟨S4096x1024, .f32⟩

abbrev hbmTy0_2 (i : Nat) : BufTy := match i % 128 with
  | 0 => ⟨S1024x102, .f32⟩
  | 1 => ⟨S1024x4096, .f32⟩
  | 2 => ⟨S1024x1x102, .f32⟩
  | 3 => ⟨S1024x4096x1, .f32⟩
  | 4 => ⟨S1024x4096x102, .f32⟩
  | 5 => ⟨S1024x4096x102, .f32⟩
  | 6 => ⟨S1024x4096x102, .i1⟩
  | 7 => ⟨S1024x4096x102, .i32⟩
  | 8 => ⟨S_, .i32⟩
  | 9 => ⟨S1024x4096, .i32⟩
  | 10 => ⟨S_, .i32⟩
  | 11 => ⟨S_, .i32⟩
  | 12 => ⟨S_, .i32⟩
  | 13 => ⟨S1024x4096, .i32⟩
  | 14 => ⟨S1024x4096, .i32⟩
  | 15 => ⟨S_, .i32⟩
  | 16 => ⟨S1024x4096, .i32⟩
  | 17 => ⟨S1024x4096, .i32⟩
  | 18 => ⟨S_, .i32⟩
  | 19 => ⟨S1024x4096, .i32⟩
  | 20 => ⟨S1024x4096, .i1⟩
  | 21 => ⟨S_, .i32⟩
  | 22 => ⟨S1024x4096, .i32⟩
  | 23 => ⟨S1024x4096, .i32⟩
  | 24 => ⟨S1024x4096, .i32⟩
  | 25 => ⟨S1024x4096x1, .i32⟩
  | 26 => ⟨S1024x4096, .f32⟩
  | 27 => ⟨S4096x1024, .f32⟩
  | 28 => ⟨S1x1024, .f32⟩
  | 29 => ⟨S4096x1024, .f32⟩
  | 30 => ⟨S4096x1024, .f32⟩
  | 31 => ⟨S_, .f32⟩
  | 32 => ⟨S1024, .f32⟩
  | 33 => ⟨S1024, .f32⟩
  | 34 => ⟨S1024, .f32⟩
  | 35 => ⟨S1x1024, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_call0_v0 : Ref sig .tc := ⟨.hbm, 57, rfl⟩
abbrev main_call0_v1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_call3_v0 : Ref sig .tc := ⟨.hbm, 78, rfl⟩
abbrev main_call3_v1_0 : Ref sig .tc := ⟨.hbm, 79, rfl⟩
abbrev main_v49 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_cst : Ref sig .tc := ⟨.hbm, 100, rfl⟩
abbrev main_call4_v14 : Ref sig .tc := ⟨.hbm, 101, rfl⟩
abbrev main_v50 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_cst : Ref sig .tc := ⟨.hbm, 122, rfl⟩
abbrev main_call5_v14 : Ref sig .tc := ⟨.hbm, 123, rfl⟩
abbrev main_v51 : Ref sig .tc := ⟨.hbm, 124, rfl⟩
abbrev main_call6_call0_cst : Ref sig .tc := ⟨.hbm, 125, rfl⟩
abbrev main_call6_call0_v0 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_c_12 : Ref sig .tc := ⟨.hbm, 139, rfl⟩
abbrev main_v64 : Ref sig .tc := ⟨.hbm, 140, rfl⟩
abbrev main_c_13 : Ref sig .tc := ⟨.hbm, 141, rfl⟩
abbrev main_v65 : Ref sig .tc := ⟨.hbm, 142, rfl⟩
abbrev main_v66 : Ref sig .tc := ⟨.hbm, 143, rfl⟩
abbrev main_c_14 : Ref sig .tc := ⟨.hbm, 144, rfl⟩
abbrev main_c_15 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_call7_v3 : Ref sig .tc := ⟨.hbm, 149, rfl⟩
abbrev main_call7_v4 : Ref sig .tc := ⟨.hbm, 150, rfl⟩
abbrev main_v67 : Ref sig .tc := ⟨.hbm, 151, rfl⟩
abbrev main_c_16 : Ref sig .tc := ⟨.hbm, 152, rfl⟩
abbrev main_c_17 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_call8_v3 : Ref sig .tc := ⟨.hbm, 157, rfl⟩
abbrev main_call8_v4 : Ref sig .tc := ⟨.hbm, 158, rfl⟩
abbrev main_v68 : Ref sig .tc := ⟨.hbm, 159, rfl⟩
abbrev main_call9_c : Ref sig .tc := ⟨.hbm, 160, rfl⟩
abbrev main_call9_v0 : Ref sig .tc := ⟨.hbm, 161, rfl⟩
abbrev main_call9_v1 : Ref sig .tc := ⟨.hbm, 162, rfl⟩
abbrev main_call9_c_0 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_call9_v5 : Ref sig .tc := ⟨.hbm, 167, rfl⟩
abbrev main_call9_c_1 : Ref sig .tc := ⟨.hbm, 168, rfl⟩
abbrev main_call9_c_2 : Ref sig .tc := ⟨.hbm, 169, rfl⟩
abbrev main_call9_v6 : Ref sig .tc := ⟨.hbm, 170, rfl⟩
abbrev main_call9_v7 : Ref sig .tc := ⟨.hbm, 171, rfl⟩
abbrev main_call9_v8 : Ref sig .tc := ⟨.hbm, 172, rfl⟩
abbrev main_call9_v9 : Ref sig .tc := ⟨.hbm, 173, rfl⟩
abbrev main_call9_v10 : Ref sig .tc := ⟨.hbm, 174, rfl⟩
abbrev main_call9_v11 : Ref sig .tc := ⟨.hbm, 175, rfl⟩
abbrev main_call9_c_3 : Ref sig .tc := ⟨.hbm, 176, rfl⟩
abbrev main_call9_v12 : Ref sig .tc := ⟨.hbm, 177, rfl⟩
abbrev main_call9_v13 : Ref sig .tc := ⟨.hbm, 178, rfl⟩
abbrev main_call9_cst : Ref sig .tc := ⟨.hbm, 179, rfl⟩
abbrev main_call9_v14 : Ref sig .tc := ⟨.hbm, 180, rfl⟩
abbrev main_v69 : Ref sig .tc := ⟨.hbm, 181, rfl⟩
abbrev main_call10_c : Ref sig .tc := ⟨.hbm, 182, rfl⟩
abbrev main_call10_v0 : Ref sig .tc := ⟨.hbm, 183, rfl⟩
abbrev main_call10_v1 : Ref sig .tc := ⟨.hbm, 184, rfl⟩
abbrev main_call10_c_0 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_call10_v5 : Ref sig .tc := ⟨.hbm, 189, rfl⟩
abbrev main_call10_c_1 : Ref sig .tc := ⟨.hbm, 190, rfl⟩
abbrev main_call10_c_2 : Ref sig .tc := ⟨.hbm, 191, rfl⟩
abbrev main_call10_v6 : Ref sig .tc := ⟨.hbm, 192, rfl⟩
abbrev main_call10_v7 : Ref sig .tc := ⟨.hbm, 193, rfl⟩
abbrev main_call10_v8 : Ref sig .tc := ⟨.hbm, 194, rfl⟩
abbrev main_call10_v9 : Ref sig .tc := ⟨.hbm, 195, rfl⟩
abbrev main_call10_v10 : Ref sig .tc := ⟨.hbm, 196, rfl⟩
abbrev main_call10_v11 : Ref sig .tc := ⟨.hbm, 197, rfl⟩
abbrev main_call10_c_3 : Ref sig .tc := ⟨.hbm, 198, rfl⟩
abbrev main_call10_v12 : Ref sig .tc := ⟨.hbm, 199, rfl⟩
abbrev main_call10_v13 : Ref sig .tc := ⟨.hbm, 200, rfl⟩
abbrev main_call10_cst : Ref sig .tc := ⟨.hbm, 201, rfl⟩
abbrev main_call10_v14 : Ref sig .tc := ⟨.hbm, 202, rfl⟩
abbrev main_v70 : Ref sig .tc := ⟨.hbm, 203, rfl⟩
abbrev main_call11_c : Ref sig .tc := ⟨.hbm, 204, rfl⟩
abbrev main_call11_v0 : Ref sig .tc := ⟨.hbm, 205, rfl⟩
abbrev main_call11_v1 : Ref sig .tc := ⟨.hbm, 206, rfl⟩
abbrev main_call11_c_0 : Ref sig .tc := ⟨.hbm, 207, rfl⟩
abbrev main_call11_v2 : Ref sig .tc := ⟨.hbm, 208, rfl⟩
abbrev main_call11_v3 : Ref sig .tc := ⟨.hbm, 209, rfl⟩
abbrev main_call11_v4 : Ref sig .tc := ⟨.hbm, 210, rfl⟩
abbrev main_call11_v5 : Ref sig .tc := ⟨.hbm, 211, rfl⟩
abbrev main_call11_c_1 : Ref sig .tc := ⟨.hbm, 212, rfl⟩
abbrev main_call11_c_2 : Ref sig .tc := ⟨.hbm, 213, rfl⟩
abbrev main_call11_v6 : Ref sig .tc := ⟨.hbm, 214, rfl⟩
abbrev main_call11_v7 : Ref sig .tc := ⟨.hbm, 215, rfl⟩
abbrev main_call11_v8 : Ref sig .tc := ⟨.hbm, 216, rfl⟩
abbrev main_call11_v9 : Ref sig .tc := ⟨.hbm, 217, rfl⟩
abbrev main_call11_v10 : Ref sig .tc := ⟨.hbm, 218, rfl⟩
abbrev main_call11_v11 : Ref sig .tc := ⟨.hbm, 219, rfl⟩
abbrev main_call11_c_3 : Ref sig .tc := ⟨.hbm, 220, rfl⟩
abbrev main_call11_v12 : Ref sig .tc := ⟨.hbm, 221, rfl⟩
abbrev main_call11_v13 : Ref sig .tc := ⟨.hbm, 222, rfl⟩
abbrev main_call11_cst : Ref sig .tc := ⟨.hbm, 223, rfl⟩
abbrev main_call11_v14 : Ref sig .tc := ⟨.hbm, 224, rfl⟩
abbrev main_v71 : Ref sig .tc := ⟨.hbm, 225, rfl⟩
abbrev main_call12_c : Ref sig .tc := ⟨.hbm, 226, rfl⟩
abbrev main_call12_v0 : Ref sig .tc := ⟨.hbm, 227, rfl⟩
abbrev main_call12_v1 : Ref sig .tc := ⟨.hbm, 228, rfl⟩
abbrev main_call12_c_0 : Ref sig .tc := ⟨.hbm, 229, rfl⟩
abbrev main_call12_v2 : Ref sig .tc := ⟨.hbm, 230, rfl⟩
abbrev main_call12_v3 : Ref sig .tc := ⟨.hbm, 231, rfl⟩
abbrev main_call12_v4 : Ref sig .tc := ⟨.hbm, 232, rfl⟩
abbrev main_call12_v5 : Ref sig .tc := ⟨.hbm, 233, rfl⟩
abbrev main_call12_c_1 : Ref sig .tc := ⟨.hbm, 234, rfl⟩
abbrev main_call12_c_2 : Ref sig .tc := ⟨.hbm, 235, rfl⟩
abbrev main_call12_v6 : Ref sig .tc := ⟨.hbm, 236, rfl⟩
abbrev main_call12_v7 : Ref sig .tc := ⟨.hbm, 237, rfl⟩
abbrev main_call12_v8 : Ref sig .tc := ⟨.hbm, 238, rfl⟩
abbrev main_call12_v9 : Ref sig .tc := ⟨.hbm, 239, rfl⟩
abbrev main_call12_v10 : Ref sig .tc := ⟨.hbm, 240, rfl⟩
abbrev main_call12_v11 : Ref sig .tc := ⟨.hbm, 241, rfl⟩
abbrev main_call12_c_3 : Ref sig .tc := ⟨.hbm, 242, rfl⟩
abbrev main_call12_v12 : Ref sig .tc := ⟨.hbm, 243, rfl⟩
abbrev main_call12_v13 : Ref sig .tc := ⟨.hbm, 244, rfl⟩
abbrev main_call12_cst : Ref sig .tc := ⟨.hbm, 245, rfl⟩
abbrev main_call12_v14 : Ref sig .tc := ⟨.hbm, 246, rfl⟩
abbrev main_v72 : Ref sig .tc := ⟨.hbm, 247, rfl⟩
abbrev main_v73 : Ref sig .tc := ⟨.hbm, 248, rfl⟩
abbrev main_v74 : Ref sig .tc := ⟨.hbm, 249, rfl⟩
abbrev main_cst_18 : Ref sig .tc := ⟨.hbm, 250, rfl⟩
abbrev main_v75 : Ref sig .tc := ⟨.hbm, 251, rfl⟩
abbrev main_v76 : Ref sig .tc := ⟨.hbm, 252, rfl⟩
abbrev main_v77 : Ref sig .tc := ⟨.hbm, 253, rfl⟩
abbrev main_v78 : Ref sig .tc := ⟨.hbm, 254, rfl⟩
abbrev main_v79 : Ref sig .tc := ⟨.hbm, 255, rfl⟩
abbrev main_v80 : Ref sig .tc := ⟨.hbm, 256, rfl⟩
abbrev main_v81 : Ref sig .tc := ⟨.hbm, 257, rfl⟩
abbrev main_v82 : Ref sig .tc := ⟨.hbm, 258, rfl⟩
abbrev main_v83 : Ref sig .tc := ⟨.hbm, 259, rfl⟩
abbrev main_v84 : Ref sig .tc := ⟨.hbm, 260, rfl⟩
abbrev main_v85 : Ref sig .tc := ⟨.hbm, 261, rfl⟩
abbrev main_v86 : Ref sig .tc := ⟨.hbm, 262, rfl⟩
abbrev main_v87 : Ref sig .tc := ⟨.hbm, 263, rfl⟩
abbrev main_c_19 : Ref sig .tc := ⟨.hbm, 264, rfl⟩
abbrev main_v88 : Ref sig .tc := ⟨.hbm, 265, rfl⟩
abbrev main_c_20 : Ref sig .tc := ⟨.hbm, 266, rfl⟩
abbrev main_c_21 : Ref sig .tc := ⟨.hbm, 267, rfl⟩
abbrev main_call13_v0 : Ref sig .tc := ⟨.hbm, 268, rfl⟩
abbrev main_call13_v1 : Ref sig .tc := ⟨.hbm, 269, rfl⟩
abbrev main_call13_v2 : Ref sig .tc := ⟨.hbm, 270, rfl⟩
abbrev main_call13_v3 : Ref sig .tc := ⟨.hbm, 271, rfl⟩
abbrev main_call13_v4 : Ref sig .tc := ⟨.hbm, 272, rfl⟩
abbrev main_v89 : Ref sig .tc := ⟨.hbm, 273, rfl⟩
abbrev main_c_22 : Ref sig .tc := ⟨.hbm, 274, rfl⟩
abbrev main_v90 : Ref sig .tc := ⟨.hbm, 275, rfl⟩
abbrev main_v91 : Ref sig .tc := ⟨.hbm, 276, rfl⟩
abbrev main_c_23 : Ref sig .tc := ⟨.hbm, 277, rfl⟩
abbrev main_v92 : Ref sig .tc := ⟨.hbm, 278, rfl⟩
abbrev main_v93 : Ref sig .tc := ⟨.hbm, 279, rfl⟩
abbrev main_v94 : Ref sig .tc := ⟨.hbm, 280, rfl⟩
abbrev main_v95 : Ref sig .tc := ⟨.hbm, 281, rfl⟩
abbrev main_v96 : Ref sig .tc := ⟨.hbm, 282, rfl⟩
abbrev main_v97 : Ref sig .tc := ⟨.hbm, 283, rfl⟩
abbrev main_v98 : Ref sig .tc := ⟨.hbm, 284, rfl⟩
abbrev main_v99 : Ref sig .tc := ⟨.hbm, 285, rfl⟩
abbrev main_v100 : Ref sig .tc := ⟨.hbm, 286, rfl⟩
abbrev main_cst_24 : Ref sig .tc := ⟨.hbm, 287, rfl⟩
abbrev main_v101 : Ref sig .tc := ⟨.hbm, 288, rfl⟩
abbrev main_v102 : Ref sig .tc := ⟨.hbm, 289, rfl⟩
abbrev main_v103 : Ref sig .tc := ⟨.hbm, 290, rfl⟩
abbrev main_v104 : Ref sig .tc := ⟨.hbm, 291, rfl⟩
abbrev main_v105 : Ref sig .tc := ⟨.hbm, 292, rfl⟩
abbrev main_v106 : Ref sig .tc := ⟨.hbm, 293, rfl⟩
abbrev main_v107 : Ref sig .tc := ⟨.hbm, 294, rfl⟩
abbrev main_v108 : Ref sig .tc := ⟨.hbm, 295, rfl⟩
abbrev main_v109 : Ref sig .tc := ⟨.hbm, 296, rfl⟩
abbrev main_v110 : Ref sig .tc := ⟨.hbm, 297, rfl⟩
abbrev main_v111 : Ref sig .tc := ⟨.hbm, 298, rfl⟩
abbrev main_v112 : Ref sig .tc := ⟨.hbm, 299, rfl⟩

abbrev nD : Nat := 1
abbrev τ : Topo := Topo.v7x

variable {F : FTy → Type} [FloatOps F]
-- ==== Proof.Tile.lean ====
/- WHAT THE KERNEL BODY COMPUTES, AS VECTOR OPERATIONS. The body is one straight line of some 3600 operations; here it is
   written with the few operations it is made of: a compare-exchange stage of the sort, the sign flip around a level of
   the sort, the read of a row at given positions, one bit of the binary search. `tile` is the whole body as a function
   of its seven input blocks. That the printed body stores exactly this is Open.lean. -/
module

public import proofs.«01_k».proof.Proof.Gen.KernelIdeal

@[expose] public section

set_option maxRecDepth 16384

noncomputable section

namespace Cert.Proof.Tile

open Cert.KernelIdeal Cert.KernelIdeal.Gen
open Idealize.ShloMosaic

variable {F : FTy → Type} [FloatOps F]

/-! ## The sort -/

/-- The lane numbers `0, 1, …, 1023` as a row. -/
def lanes : IVec S1x1024 32 := iota .tc S1x1024 32 [1] iota_S1x1024_d1_w32

/-- The row that says at each lane whether the bits `k` of the lane number are all clear. -/
def clearRow (k : Nat) : IVec S1x1024 1 :=
  cmpi .eq (andi lanes (broadcast S1x1024 (BitVec.ofNat 32 k))) (broadcast S1x1024 0#32)

/-- The row of `1` at the lanes whose bit `k` is clear and `-1` at the others. -/
def signRow (k : Nat) : FVec F S1x1024 .f32 :=
  select (clearRow k) (broadcast S1x1024 (Scalar.ofBits (F := F) .f32 0x3F800000#32)) (broadcast S1x1024 (Scalar.ofBits (F := F) .f32 0xBF800000#32))

/-- Every row times the signs at bit `k`. -/
def flip (k : Nat) (x : FVec F S128x1024 .f32) : FVec F S128x1024 .f32 :=
  mulf x (broadcastTo S128x1024 (signRow (F := F) k) broadcasts_S1x1024_S128x1024)

/-- The columns from `o` on, `n` of them. -/
abbrev colsShape (n : Nat) : Shape := ⟨2, ![128, n]⟩

theorem slices_cols (o n : Nat) (h : o + n ≤ 1024) : S128x1024.Slices ![0, o] (colsShape n) := by
  refine ⟨rfl, fun a => ?_⟩
  match a with
  | ⟨0, _⟩ => exact Nat.le_refl 128
  | ⟨1, _⟩ => exact h

theorem concatenates_cols (n k : Nat) (h : n + k = 1024) : Shape.Concatenates [colsShape n, colsShape k] S128x1024 1 := by
  refine ⟨Nat.le_refl 2, ?_, ?_⟩
  · intro s hs
    rcases List.mem_cons.mp hs with rfl | hs
    · exact ⟨rfl, fun b hb => by match b, hb with | ⟨0, _⟩, _ => rfl | ⟨1, _⟩, hb => exact absurd rfl hb⟩
    · rcases List.mem_cons.mp hs with rfl | hs
      · exact ⟨rfl, fun b hb => by match b, hb with | ⟨0, _⟩, _ => rfl | ⟨1, _⟩, hb => exact absurd rfl hb⟩
      · exact absurd hs (List.not_mem_nil)
  · show n + (k + 0) = 1024
    omega

/-- Every row turned left by `o` lanes, `o + n` being the number of lanes. -/
def turn (o n : Nat) (h : o + n = 1024) (x : FVec F S128x1024 .f32) : FVec F S128x1024 .f32 :=
  concatenate S128x1024 1
    [⟨colsShape n, extractStridedSlice (colsShape n) ![0, o] x (slices_cols o n (Nat.le_of_eq h))⟩,
      ⟨colsShape o, extractStridedSlice (colsShape o) ![0, 0] x (slices_cols 0 o (by omega))⟩]
    (concatenates_cols n o (by omega))

theorem two_pow_le (s : Nat) (h : s < 10) : 2 ^ s ≤ 1024 :=
  Nat.le_trans (Nat.pow_le_pow_right (by decide) (Nat.le_of_lt h)) (Nat.le_of_eq (by decide : 2 ^ 10 = 1024))

/-- One stage of the sort, at distance `2 ^ s`: a lane with that bit clear keeps the lesser of its entry and the one
    `2 ^ s` to the right, the others the greater of theirs and the one `2 ^ s` to the left. -/
def stage (s : Nat) (h : s < 10) (x : FVec F S128x1024 .f32) : FVec F S128x1024 .f32 :=
  select (broadcastTo S128x1024 (shapeCast S1x1024 (clearRow (2 ^ s)) shapeCasts_S1x1024_S1x1024) broadcasts_S1x1024_S128x1024)
    (minimumf x (turn (2 ^ s) (1024 - 2 ^ s) (by have := two_pow_le s h; omega) x))
    (maximumf x (turn (1024 - 2 ^ s) (2 ^ s) (by have := two_pow_le s h; omega) x))

/-- The stages at distances `2 ^ (n - 1), …, 2, 1`. -/
def merge : (n : Nat) → n ≤ 10 → FVec F S128x1024 .f32 → FVec F S128x1024 .f32
  | 0, _, x => x
  | n + 1, h, x => merge n (Nat.le_of_succ_le h) (stage n h x)

/-- The first `l` levels of the sort: level `n` merges blocks of `2 ^ (n + 1)` lanes between two flips of the signs. -/
def levels : (l : Nat) → l ≤ 9 → FVec F S128x1024 .f32 → FVec F S128x1024 .f32
  | 0, _, x => x
  | l + 1, h, x => flip (2 ^ (l + 1)) (merge (l + 1) (by omega) (flip (2 ^ (l + 1)) (levels l (by omega) x)))

/-- The rows sorted: nine levels, then the last one, which needs no flip. -/
def sorted (x : FVec F S128x1024 .f32) : FVec F S128x1024 .f32 :=
  merge 10 (Nat.le_refl 10) (levels 9 (Nat.le_refl 9) x)

/-! ## Reading rows at positions -/

/-- A position below zero counted from the end of the 128 lanes. -/
def wrap (i : IVec S128x128 32) : IVec S128x128 32 :=
  shapeCast S128x128 (shapeCast S128x128x1 (select (cmpi .slt i (broadcast S128x128 0#32)) (addi i (broadcast S128x128 128#32)) i)
    shapeCasts_S128x128_S128x128x1) shapeCasts_S128x128x1_S128x128

/-- Lanes `128 * c, …` of the rows kept where the chunk number is `c`, read at the local positions. -/
def pickChunk (tbl : FVec F S128x1024 .f32) (loc chunk : IVec S128x128 32) (c : Nat) (h : c < 8) (prev : FVec F S128x128 .f32) :
    FVec F S128x128 .f32 :=
  select (cmpi .eq chunk (broadcast S128x128 (BitVec.ofNat 32 c)))
    (dynamicGather 1 (extractStridedSlice S128x128 ![0, 128 * c] tbl (slices_cols (128 * c) 128 (by omega))) (wrap loc)) prev

/-- The rows read at positions `i`: the chunk is `i / 128`, the local position `i % 128`. -/
def readAt8 (tbl : FVec F S128x1024 .f32) (i : IVec S128x128 32) : FVec F S128x128 .f32 :=
  let loc := andi i (broadcast S128x128 127#32)
  let chunk := shrsi i (broadcast S128x128 7#32)
  pickChunk tbl loc chunk 7 (by decide) <| pickChunk tbl loc chunk 6 (by decide) <| pickChunk tbl loc chunk 5 (by decide) <|
    pickChunk tbl loc chunk 4 (by decide) <| pickChunk tbl loc chunk 3 (by decide) <| pickChunk tbl loc chunk 2 (by decide) <|
    pickChunk tbl loc chunk 1 (by decide) <| pickChunk tbl loc chunk 0 (by decide) <|
    broadcast S128x128 (Scalar.ofBits (F := F) .f32 0x00000000#32)

theorem slices_wide (c : Nat) (h : c < 32) : S128x4096.Slices ![0, 128 * c] S128x128 := by
  refine ⟨rfl, fun a => ?_⟩
  match a with
  | ⟨0, _⟩ => exact Nat.le_refl 128
  | ⟨1, _⟩ => show 128 * c + 128 ≤ 4096; omega

theorem concatenates_wide : Shape.Concatenates (List.replicate 32 S128x128) S128x4096 1 := by decide

/-- A table of 128 lanes read at 4096 positions a row, 128 of them at a time. -/
def readWide (tbl : FVec F S128x128 .f32) (i : IVec S128x4096 32) : FVec F S128x4096 .f32 :=
  concatenate S128x4096 1
    (List.ofFn fun c : Fin 32 => (⟨S128x128, dynamicGather 1 tbl (wrap (extractStridedSlice S128x128 ![0, 128 * c.val] i (slices_wide c.val c.isLt)))⟩ :
      (s : Shape) × (s.Idx → F .f32)))
    concatenates_wide

/-! ## The table of quantiles -/

section Table

variable (sv : FVec F S128x1024 .f32) (x1 : FVec F S1x128 .f32)

/-- A column laid over the 128 lanes. -/
abbrev over (x : FVec F S128x1 .f32) : FVec F S128x128 .f32 := broadcastTo S128x128 x broadcasts_S128x1_S128x128
/-- A literal at every lane of the table. -/
abbrev lit (b : BitVec 32) : FVec F S128x128 .f32 := broadcast S128x128 (Scalar.ofBits (F := F) .f32 b)
/-- A literal in a column. -/
abbrev litCol (b : BitVec 32) : FVec F S128x1 .f32 := broadcast S128x1 (Scalar.ofBits (F := F) .f32 b)

/-- How many entries of each row are negative. -/
def negs : FVec F S128x1 .f32 :=
  shapeCast S128x1 (multiReduction .add [1] S128
    (sitofp .f32 (extui 32 (cmpf .olt sv (broadcast S128x1024 (Scalar.ofBits (F := F) .f32 0x00000000#32))) natLt_1_32)) 0x00000000#32
    reduces_S128x1024_S128 (.inl rfl) rfl) shapeCasts_S128_S128x1

/-- The other entries: 1002 less the negative ones. -/
def poss : FVec F S128x1 .f32 := subf (litCol 0x447A8000#32) (negs sv)
/-- The weight of a negative entry. -/
def wneg : FVec F S128x1 .f32 := divf (litCol 0x447A0000#32) (negs sv)
/-- The weight of another entry. -/
def wpos : FVec F S128x1 .f32 := divf (litCol 0x447A0000#32) (poss sv)
/-- The weight of the negative entries together. -/
def tneg : FVec F S128x1 .f32 := mulf (negs sv) (wneg sv)
/-- The weight of all entries. -/
def total : FVec F S128x1 .f32 := addf (tneg sv) (mulf (poss sv) (wpos sv))
/-- The target weight of each level. -/
def target : FVec F S128x128 .f32 :=
  mulf (broadcastTo S128x128 (shapeCast S1x128 x1 shapeCasts_S1x128_S1x128) broadcasts_S1x128_S128x128) (over (total sv))
/-- How many cumulative weights are at most the target. -/
def reached : FVec F S128x128 .f32 :=
  addf (minimumf (over (negs sv)) (maximumf (lit 0x00000000#32) (floor (divf (target sv x1) (over (wneg sv))))))
    (minimumf (over (poss sv)) (maximumf (lit 0x00000000#32) (floor (divf (subf (target sv x1) (over (tneg sv))) (over (wpos sv))))))
/-- The position above the target. -/
def above : FVec F S128x128 .f32 := minimumf (reached sv x1) (lit 0x4479C000#32)
/-- The position below the target. -/
def below : FVec F S128x128 .f32 :=
  minimumf (lit 0x4479C000#32) (maximumf (lit 0x00000000#32) (subf (reached sv x1) (lit 0x3F800000#32)))
/-- The cumulative weight at position `p`. -/
def weightAt (p : FVec F S128x128 .f32) : FVec F S128x128 .f32 :=
  select (cmpf .olt p (over (negs sv))) (mulf (addf p (lit 0x3F800000#32)) (over (wneg sv)))
    (addf (over (tneg sv)) (mulf (addf (subf p (over (negs sv))) (lit 0x3F800000#32)) (over (wpos sv))))
/-- The quantile at each level, between the entries below and above its target. -/
def quant : FVec F S128x128 .f32 :=
  addf (readAt8 sv (fptosi 32 (below sv x1)))
    (divf (mulf (subf (readAt8 sv (fptosi 32 (above sv x1))) (readAt8 sv (fptosi 32 (below sv x1))))
        (subf (target sv x1) (weightAt sv (below sv x1))))
      (addf (subf (weightAt sv (above sv x1)) (weightAt sv (below sv x1))) (lit 0x358637BD#32)))
/-- The table searched: the 102 quantiles, then the largest number in the lanes after them. -/
def table : FVec F S128x128 .f32 :=
  select (cmpi .sge (iota .tc S128x128 32 [1] iota_S128x128_d1_w32) (broadcast S128x128 102#32)) (lit 0x7149F2CA#32) (quant sv x1)

end Table

/-! ## The search and the whole body -/

/-- A column laid over the 4096 rows of the batch. -/
abbrev overWide (x : FVec F S128x1 .f32) : FVec F S128x4096 .f32 :=
  broadcastTo S128x4096 (shapeCast S128x1 x shapeCasts_S128x1_S128x1) broadcasts_S128x1_S128x4096

/-- The features of the block, transposed and scaled. -/
def hidden (x2 : FVec F S4096x128 .f32) (x3 x4 : FVec F S128x1 .f32) : FVec F S128x4096 .f32 :=
  addf (mulf (transpose S128x4096 [1, 0] x2 transposes_S4096x128_p1_0_S128x4096) (overWide x3)) (overWide x4)

/-- One bit of the binary search: the entry `b` steps on is at most `h`, so the count moves past it. -/
def searchBit (tbl : FVec F S128x128 .f32) (h : FVec F S128x4096 .f32) (b : BitVec 32) (cnt : IVec S128x4096 32) : IVec S128x4096 32 :=
  select (cmpf .ole (readWide tbl (addi cnt (broadcast S128x4096 b))) h)
    (addi (addi cnt (broadcast S128x4096 b)) (broadcast S128x4096 1#32)) cnt

/-- How many entries of the table are at most `h`, at most 101. -/
def counted (tbl : FVec F S128x128 .f32) (h : FVec F S128x4096 .f32) : IVec S128x4096 32 :=
  minsi (searchBit tbl h 0#32 <| searchBit tbl h 1#32 <| searchBit tbl h 3#32 <| searchBit tbl h 7#32 <| searchBit tbl h 15#32 <|
    searchBit tbl h 31#32 <| searchBit tbl h 63#32 <| broadcast S128x4096 0#32) (broadcast S128x4096 101#32)

/-- The levels as a table, the same in every row. -/
def levelRows (x1 : FVec F S1x128 .f32) : FVec F S128x128 .f32 :=
  broadcastTo S128x128 (shapeCast S1x128 (shapeCast S1x128 x1 shapeCasts_S1x128_S1x128) shapeCasts_S1x128_S1x128) broadcasts_S1x128_S128x128

/-- The block the body stores, from its seven input blocks: the sorted context rows, the levels, the features, and the
    four columns of the two scalings. -/
def tile (x0 : FVec F S128x1024 .f32) (x1 : FVec F S1x128 .f32) (x2 : FVec F S4096x128 .f32) (x3 x4 x5 x6 : FVec F S128x1 .f32) :
    FVec F S4096x128 .f32 :=
  transpose S4096x128 [1, 0]
    (addf (mulf (readWide (levelRows x1)
        (counted (table (sorted (shapeCast S128x1024 x0 shapeCasts_S128x1024_S128x1024)) x1) (hidden x2 x3 x4))) (overWide x5)) (overWide x6))
    transposes_S128x4096_p1_0_S4096x128

end Cert.Proof.Tile

end
-- ==== Proof.Consts.lean ====
/- THE LITERALS of the two programs as real numbers. -/
module

public import Idealize.ShloMosaic.Lib.IdealHost
public import Idealize.ShloMosaic.Lib.Pointwise

@[expose] public section

noncomputable section

namespace Cert.Proof.Consts

open Idealize.ShloMosaic

/-- The small number added to a difference of weights: the float nearest to a millionth. -/
def tiny : ℝ := 8796093 / 2 ^ 43
/-- The filler of the sorted rows: the float nearest to `10 ^ 30`. -/
def big : ℝ := 13234890 * 2 ^ 76

theorem tiny_pos : 0 < tiny := by unfold tiny; norm_num
theorem hundred_le_big : (100 : ℝ) ≤ big := by unfold big; norm_num
theorem big_nonneg : 0 ≤ big := by unfold big; norm_num

theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_1000 : Ideal.ofBits .f32 0x447A0000#32 = ((1000 : ℝ) : EReal) := by
  simp [Ideal.ofBits, Ideal.ieee, -EReal.coe_mul]; norm_num
theorem ofBits_1002 : Ideal.ofBits .f32 0x447A8000#32 = ((1002 : ℝ) : EReal) := by
  simp [Ideal.ofBits, Ideal.ieee, -EReal.coe_mul]; norm_num
theorem ofBits_999 : Ideal.ofBits .f32 0x4479C000#32 = ((999 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_neg_100 : Ideal.ofBits .f32 0xC2C80000#32 = ((-100 : ℝ) : EReal) := by
  simp [Ideal.ofBits, Ideal.ieee, -EReal.coe_mul]; norm_num
theorem ofBits_tiny : Ideal.ofBits .f32 0x358637BD#32 = ((tiny : ℝ) : EReal) := by
  simp [Ideal.ofBits, Ideal.ieee, tiny, -EReal.coe_mul]; norm_num
theorem ofBits_big : Ideal.ofBits .f32 0x7149F2CA#32 = ((big : ℝ) : EReal) := by
  simp [Ideal.ofBits, Ideal.ieee, big, -EReal.coe_mul]

end Cert.Proof.Consts

end
-- ==== Proof.Words.lean ====
/- COMPARISONS, SELECTS AND 32-BIT WORDS of both programs, read as `if`s on the extended reals and the naturals. -/
module

public import proofs.«01_k».proof.Proof.Consts
public import Idealize.ShloMosaic.PureOps.Vector

@[expose] public section

noncomputable section

namespace Cert.Proof.Words

open Idealize.ShloMosaic

/-- A select on a decided bit. -/
theorem sel_ite {p : Prop} [Decidable p] {α : Type} (a b : α) :
    Scalar.select (if p then 1#1 else 0#1) a b = if p then a else b := by
  by_cases h : p
  · rw [if_pos h, if_pos h]; rfl
  · rw [if_neg h, if_neg h]; rfl

theorem ofBool_ite (p : Prop) [Decidable p] : BitVec.ofBool (decide p) = if p then 1#1 else 0#1 := by
  by_cases h : p
  · rw [if_pos h, decide_eq_true h]; rfl
  · rw [if_neg h, decide_eq_false h]; rfl

theorem cmp_lt (x y : EReal) : Ideal.cmp .olt x y = if x < y then 1#1 else 0#1 := ofBool_ite _
theorem cmp_le (x y : EReal) : Ideal.cmp .ole x y = if x ≤ y then 1#1 else 0#1 := ofBool_ite _
theorem cmp_ge (x y : EReal) : Ideal.cmp .oge x y = if y ≤ x then 1#1 else 0#1 := ofBool_ite _
theorem cmp_ne (x y : EReal) : Ideal.cmp .une x y = if x ≠ y then 1#1 else 0#1 := ofBool_ite _

variable {w : Nat} (a b : BitVec w)

theorem word_eq : IntOp.cmpi .eq a b = if a = b then 1#1 else 0#1 := by
  rw [← ofBool_ite]; unfold IntOp.cmpi; congr 1
theorem word_slt : IntOp.cmpi .slt a b = if a.toInt < b.toInt then 1#1 else 0#1 := ofBool_ite _
theorem word_sle : IntOp.cmpi .sle a b = if a.toInt ≤ b.toInt then 1#1 else 0#1 := ofBool_ite _
theorem word_sge : IntOp.cmpi .sge a b = if b.toInt ≤ a.toInt then 1#1 else 0#1 := ofBool_ite _

/-- A small natural as a word, read signed. -/
theorem toInt_small {n : Nat} (h : n < 2 ^ 31) : (BitVec.ofNat 32 n).toInt = n := by
  rw [BitVec.toInt_ofNat', Int.bmod_eq_of_le] <;> omega

theorem toNat_small {n : Nat} (h : n < 2 ^ 31) : (BitVec.ofNat 32 n).toNat = n := by
  rw [BitVec.toNat_ofNat]; exact Nat.mod_eq_of_lt (by omega)

theorem add_small (m n : Nat) : IntOp.addi (BitVec.ofNat 32 m) (BitVec.ofNat 32 n) = BitVec.ofNat 32 (m + n) :=
  (BitVec.ofNat_add m n).symm

theorem min_small {m n : Nat} (hm : m < 2 ^ 31) (hn : n < 2 ^ 31) :
    IntOp.minsi (BitVec.ofNat 32 m) (BitVec.ofNat 32 n) = BitVec.ofNat 32 (min m n) := by
  unfold IntOp.minsi
  rw [BitVec.slt_eq_decide, toInt_small hm, toInt_small hn]
  by_cases h : m < n
  · rw [min_eq_left h.le, if_pos (by simpa using h)]
  · rw [min_eq_right (by omega), if_neg (by simpa using h)]

theorem max_small {m n : Nat} (hm : m < 2 ^ 31) (hn : n < 2 ^ 31) :
    IntOp.maxsi (BitVec.ofNat 32 m) (BitVec.ofNat 32 n) = BitVec.ofNat 32 (max m n) := by
  unfold IntOp.maxsi
  rw [BitVec.slt_eq_decide, toInt_small hm, toInt_small hn]
  by_cases h : n < m
  · rw [max_eq_left h.le, if_pos (by simpa using h)]
  · rw [max_eq_right (by omega), if_neg (by simpa using h)]

/-- A natural number in floating point, as a word. -/
theorem fptosi_nat {n : Nat} (h : n < 2 ^ 31) : Ideal.fptosi 32 ((n : ℝ) : EReal) = BitVec.ofNat 32 n := by
  unfold Ideal.fptosi
  show BitVec.ofInt 32 (max _ (min _ (if (0 : ℝ) ≤ (n : ℝ) then ⌊(n : ℝ)⌋ else ⌈(n : ℝ)⌉))) = _
  rw [if_pos (Nat.cast_nonneg n), Int.floor_natCast, min_eq_right (by push_cast; omega), max_eq_right (by push_cast; omega),
    BitVec.ofInt_natCast]

end Cert.Proof.Words

end
-- ==== Proof.Model.lean ====
/- THE MATHEMATICS OF THE LAYER, over extended reals, apart from both programs: the cumulative weights of the sorted context,
   the quantile at a target weight, that the quantiles ascend with the target (`quantile_mono`), that two clipped floors
   count the cumulative weights (`reach_eq_floors`), that seven steps of a binary search count the entries of an ascending
   table (`search_eq`), and that a scaling by one factor and one shift is the scaling by mean and deviation (`scale_eq`). -/
module

public import proofs.«01_k».proof.Proof.Consts

@[expose] public section

noncomputable section

namespace Cert.Proof.Model

open Idealize.ShloMosaic Cert.Proof.Consts

/-! ## Counting -/

/-- In a range where `p` holds of everything below a place where it holds, the places below the count are those of `p`. -/
theorem lt_card_iff (N : ℕ) (p : ℕ → Prop) [DecidablePred p] (hp : ∀ i j, i ≤ j → j < N → p j → p i) (i : ℕ) (hi : i < N) :
    i < ((Finset.range N).filter p).card ↔ p i := by
  constructor
  · intro h
    by_contra hn
    have hsub : (Finset.range N).filter p ⊆ Finset.range i := by
      intro j hj
      rw [Finset.mem_filter, Finset.mem_range] at hj
      rw [Finset.mem_range]
      by_contra hij
      exact hn (hp i j (not_lt.mp hij) hj.1 hj.2)
    have := Finset.card_le_card hsub
    rw [Finset.card_range] at this
    omega
  · intro h
    have hsub : Finset.range (i + 1) ⊆ (Finset.range N).filter p := by
      intro j hj
      rw [Finset.mem_range] at hj
      rw [Finset.mem_filter, Finset.mem_range]
      exact ⟨by omega, hp j i (by omega) hi h⟩
    have := Finset.card_le_card hsub
    rw [Finset.card_range] at this
    omega

theorem card_le (N : ℕ) (p : ℕ → Prop) [DecidablePred p] : ((Finset.range N).filter p).card ≤ N :=
  (Finset.card_filter_le _ _).trans (Finset.card_range N).le

/-- A floor clipped to `0 … N` counts the multiples `w, 2 w, …, N w` that are at most `t`. -/
theorem count_eq_floor (N : ℕ) (w : ℝ) (hw : 0 < w) (t : EReal) :
    (((((Finset.range N).filter fun i : ℕ => ((((i : ℝ) + 1) * w : ℝ) : EReal) ≤ t).card : ℕ) : ℝ) : EReal)
      = min (((N : ℕ) : ℝ) : EReal) (max 0 (Ideal.liftRound Int.floor (t * ((1 / w : ℝ) : EReal)))) := by
  have hw' : (0 : ℝ) < 1 / w := by positivity
  induction t with
  | bot =>
    rw [EReal.bot_mul_coe_of_pos hw', Ideal.liftRound_bot, max_eq_left bot_le,
      min_eq_right (by exact_mod_cast Nat.zero_le N)]
    rw [Finset.filter_false_of_mem (fun i _ => by simp [-EReal.coe_mul])]
    simp
  | top =>
    rw [EReal.top_mul_coe_of_pos hw', Ideal.liftRound_top, max_eq_right le_top, min_eq_left le_top]
    rw [Finset.filter_true_of_mem (fun i _ => le_top), Finset.card_range]
  | coe t =>
    rw [← EReal.coe_mul, Ideal.liftRound_coe]
    have hset : ((Finset.range N).filter fun i : ℕ => ((((i : ℝ) + 1) * w : ℝ) : EReal) ≤ (t : EReal))
        = Finset.range (min N (⌊t * (1 / w)⌋).toNat) := by
      ext i
      rw [Finset.mem_filter, Finset.mem_range, Finset.mem_range, lt_min_iff, EReal.coe_le_coe_iff, ← le_div_iff₀ hw,
        Int.lt_toNat, Int.lt_iff_add_one_le, Int.le_floor]
      rw [show t * (1 / w) = t / w by ring]
      push_cast
      rfl
    rw [hset, Finset.card_range, show (0 : EReal) = ((0 : ℝ) : EReal) from rfl, ← EReal.coe_strictMono.monotone.map_max,
      ← EReal.coe_strictMono.monotone.map_min]
    congr 1
    rw [Nat.cast_min]
    congr 1
    have h : (((⌊t * (1 / w)⌋).toNat : ℤ) : ℝ) = ((max ⌊t * (1 / w)⌋ 0 : ℤ) : ℝ) := by rw [Int.toNat_eq_max]
    rw [Int.cast_natCast] at h
    rw [h, Int.cast_max, Int.cast_zero, max_comm]

/-! ## The cumulative weights -/

/-- The cumulative weight at the sorted position `i`, when `n` of the 1002 entries are negative: the negative entries share
    the weight 1000, and so do the others. -/
def cw (n i : ℕ) : ℝ :=
  if i < n then ((i : ℝ) + 1) * (1000 / n) else 1000 + ((i : ℝ) - n + 1) * (1000 / (1002 - n))

theorem wneg_pos {n : ℕ} (h1 : 1 ≤ n) : (0 : ℝ) < 1000 / n := by
  have : (0 : ℝ) < n := by exact_mod_cast h1
  positivity

theorem wpos_pos {n : ℕ} (h2 : n ≤ 1001) : (0 : ℝ) < 1000 / (1002 - n) := by
  have : (n : ℝ) ≤ 1001 := by exact_mod_cast h2
  have : (0 : ℝ) < 1002 - n := by linarith
  positivity

theorem cw_mono {n : ℕ} (h1 : 1 ≤ n) (h2 : n ≤ 1001) {i j : ℕ} (hij : i ≤ j) : cw n i ≤ cw n j := by
  have hw1 := wneg_pos h1
  have hw2 := wpos_pos h2
  have hr : (i : ℝ) ≤ j := by exact_mod_cast hij
  have hn : (n : ℝ) ≠ 0 := by have : (0 : ℝ) < n := by exact_mod_cast h1
                              exact ne_of_gt this
  unfold cw
  by_cases hi : i < n
  · rw [if_pos hi]
    by_cases hj : j < n
    · rw [if_pos hj]; exact mul_le_mul_of_nonneg_right (by linarith) hw1.le
    · rw [if_neg hj]
      have h3 : ((i : ℝ) + 1) * (1000 / n) ≤ n * (1000 / n) :=
        mul_le_mul_of_nonneg_right (by exact_mod_cast hi) hw1.le
      have h4 : (n : ℝ) * (1000 / n) = 1000 := by field_simp
      have h5 : (n : ℝ) ≤ j := by exact_mod_cast not_lt.mp hj
      have h6 : 0 ≤ ((j : ℝ) - n + 1) * (1000 / (1002 - n)) := mul_nonneg (by linarith) hw2.le
      linarith
  · rw [if_neg hi, if_neg (by omega)]
    have := mul_le_mul_of_nonneg_right (show (i : ℝ) - n + 1 ≤ (j : ℝ) - n + 1 by linarith) hw2.le
    linarith

/-- The weight of all entries is 2000. -/
theorem cw_last {n : ℕ} (h2 : n ≤ 1001) : cw n 1001 = 2000 := by
  have h : (n : ℝ) ≤ 1001 := by exact_mod_cast h2
  have h0 : (1002 : ℝ) - n ≠ 0 := by linarith
  unfold cw
  rw [if_neg (by omega)]
  rw [show (((1001 : ℕ) : ℝ) - n + 1) = 1002 - n by push_cast; ring]
  field_simp
  norm_num

/-- How many cumulative weights are at most the target `t`. -/
def reach (n : ℕ) (t : EReal) : ℕ := ((Finset.range 1002).filter fun i => ((cw n i : ℝ) : EReal) ≤ t).card

theorem reach_le (n : ℕ) (t : EReal) : reach n t ≤ 1002 := card_le _ _

theorem lt_reach_iff {n : ℕ} (h1 : 1 ≤ n) (h2 : n ≤ 1001) (t : EReal) {i : ℕ} (hi : i < 1002) :
    i < reach n t ↔ ((cw n i : ℝ) : EReal) ≤ t :=
  lt_card_iff 1002 (fun i => ((cw n i : ℝ) : EReal) ≤ t)
    (fun _ _ hij _ h => (EReal.coe_le_coe_iff.mpr (cw_mono h1 h2 hij)).trans h) i hi

theorem reach_mono (n : ℕ) {t t' : EReal} (h : t ≤ t') : reach n t ≤ reach n t' :=
  Finset.card_le_card (Finset.monotone_filter_right _ fun _ _ hi => hi.trans h)

/-- The count as two clipped floors: one among the negative entries, one among the others. -/
theorem reach_eq_floors {n : ℕ} (h1 : 1 ≤ n) (h2 : n ≤ 1001) (t : EReal) :
    (((reach n t : ℕ) : ℝ) : EReal)
      = min (((n : ℕ) : ℝ) : EReal) (max 0 (Ideal.liftRound Int.floor (t * ((1 / (1000 / n) : ℝ) : EReal))))
        + min (((1002 - n : ℕ) : ℝ) : EReal)
            (max 0 (Ideal.liftRound Int.floor ((t - ((1000 : ℝ) : EReal)) * ((1 / (1000 / (1002 - n)) : ℝ) : EReal)))) := by
  rw [← count_eq_floor n _ (wneg_pos h1) t, ← count_eq_floor (1002 - n) _ (wpos_pos h2) (t - ((1000 : ℝ) : EReal)), ← EReal.coe_add,
    ← Nat.cast_add]
  congr 2
  unfold reach
  simp only [Finset.card_filter]
  rw [show Finset.range 1002 = Finset.range (n + (1002 - n)) by congr 1; omega]
  refine (Finset.sum_range_add _ _ _).trans ?_
  congr 1
  · refine Finset.sum_congr rfl fun i hi => ?_
    rw [Finset.mem_range] at hi
    unfold cw
    rw [if_pos hi]
  · refine Finset.sum_congr rfl fun i _ => ?_
    have hc : cw n (n + i) = 1000 + ((i : ℝ) + 1) * (1000 / (1002 - n)) := by
      unfold cw
      rw [if_neg (by omega), show ((n + i : ℕ) : ℝ) - n + 1 = (i : ℝ) + 1 by push_cast; ring]
    rw [hc]
    refine if_congr ?_ rfl rfl
    induction t with
    | bot => simp [-EReal.coe_mul, -EReal.coe_add]
    | top => simp [-EReal.coe_mul, -EReal.coe_add]
    | coe t =>
      rw [← EReal.coe_sub, EReal.coe_le_coe_iff, EReal.coe_le_coe_iff]
      constructor <;> intro h <;> linarith

/-! ## The quantile -/

/-- The position below a target that `a` cumulative weights have reached. -/
def lo (a : ℕ) : ℕ := min (a - 1) 999
/-- The position above it. -/
def hi (a : ℕ) : ℕ := min a 999

/-- The quantile at target weight `t` of sorted entries `S`, of which `n` are negative: between the entry below the target
    and the one above, in proportion to the weights. -/
def quantile (S : ℕ → EReal) (n : ℕ) (t : EReal) : EReal :=
  S (lo (reach n t)) + (S (hi (reach n t)) - S (lo (reach n t)))
    * ((t - ((cw n (lo (reach n t)) : ℝ) : EReal)) * ((1 / (cw n (hi (reach n t)) - cw n (lo (reach n t)) + tiny) : ℝ) : EReal))

section Quantile

variable {S : ℕ → EReal} {n : ℕ} (h1 : 1 ≤ n) (h2 : n ≤ 1001) (hS : ∀ i j, i ≤ j → j < 1002 → S i ≤ S j)
  (hb : ∀ i, i < 1002 → S i ≤ ((big : ℝ) : EReal))

include h1 h2 in
theorem gap_pos (a : ℕ) : 0 < 1 / (cw n (hi a) - cw n (lo a) + tiny) := by
  have : cw n (lo a) ≤ cw n (hi a) := cw_mono h1 h2 (by unfold lo hi; omega)
  have := tiny_pos
  apply one_div_pos.mpr
  linarith

include h1 h2 hS hb in
/-- The quantile lies between the two entries. -/
theorem quantile_mem (t : EReal) : S (lo (reach n t)) ≤ quantile S n t ∧ quantile S n t ≤ S (hi (reach n t)) := by
  have hgap := gap_pos h1 h2 (reach n t)
  have hlt := fun i hi => lt_reach_iff h1 h2 t (i := i) hi
  unfold quantile
  generalize reach n t = a at *
  have hlh : S (lo a) ≤ S (hi a) := hS _ _ (by unfold lo hi; omega) (by unfold hi; omega)
  have hhb : S (hi a) ≤ ((big : ℝ) : EReal) := hb _ (by unfold hi; omega)
  generalize hu : S (lo a) = u at *
  generalize hv : S (hi a) = v at *
  induction u with
  | bot => rw [EReal.bot_add]; exact ⟨le_rfl, bot_le⟩
  | top => exact absurd (hlh.trans hhb) (by simp)
  | coe u =>
    induction v with
    | bot => exact absurd hlh (by simp)
    | top => exact absurd hhb (by simp)
    | coe v =>
      have huv : u ≤ v := EReal.coe_le_coe_iff.mp hlh
      by_cases hedge : lo a = hi a
      · have : u = v := by rw [hedge, hv] at hu; exact (EReal.coe_eq_coe_iff.mp hu).symm
        subst this
        rw [← EReal.coe_sub, sub_self, EReal.coe_zero, zero_mul, add_zero]
        exact ⟨le_rfl, le_rfl⟩
      · have hlo : lo a = a - 1 := by unfold lo hi at *; omega
        have hhi : hi a = a := by unfold lo hi at *; omega
        have ha : 1 ≤ a ∧ a ≤ 999 := by unfold lo hi at *; omega
        have e1 := (hlt (a - 1) (by omega)).mp (by omega)
        have e2 : ¬ ((cw n a : ℝ) : EReal) ≤ t := fun h => absurd ((hlt a (by omega)).mpr h) (lt_irrefl a)
        rw [hlo, hhi] at hgap ⊢
        induction t with
        | bot => exact absurd e1 (by simp)
        | top => exact absurd le_top e2
        | coe t =>
          rw [EReal.coe_le_coe_iff] at e1
          have e3 : t < cw n a := by
            by_contra hc
            exact e2 (EReal.coe_le_coe_iff.mpr (not_lt.mp hc))
          rw [← EReal.coe_sub, ← EReal.coe_sub, ← EReal.coe_mul, ← EReal.coe_mul, ← EReal.coe_add, EReal.coe_le_coe_iff,
            EReal.coe_le_coe_iff]
          have hf0 : 0 ≤ (t - cw n (a - 1)) * (1 / (cw n a - cw n (a - 1) + tiny)) := mul_nonneg (by linarith) hgap.le
          have hf1 : (t - cw n (a - 1)) * (1 / (cw n a - cw n (a - 1) + tiny)) ≤ 1 := by
            rw [mul_one_div]
            refine div_le_one_of_le₀ ?_ (one_div_pos.mp hgap).le
            have := tiny_pos
            linarith
          constructor
          · nlinarith
          · nlinarith

include h1 h2 hS hb in
/-- The quantile is at most every bound of the entries. -/
theorem quantile_le (t : EReal) : quantile S n t ≤ ((big : ℝ) : EReal) :=
  (quantile_mem h1 h2 hS hb t).2.trans (hb _ (by unfold hi; omega))

include h1 h2 hS hb in
/-- The quantiles ascend with the target. -/
theorem quantile_mono {t t' : EReal} (h : t ≤ t') : quantile S n t ≤ quantile S n t' := by
  rcases (reach_mono n h).lt_or_eq with hlt | heq
  · refine (quantile_mem h1 h2 hS hb t).2.trans (le_trans ?_ (quantile_mem h1 h2 hS hb t').1)
    exact hS _ _ (by unfold lo hi; omega) (by unfold lo; omega)
  · have hgap := gap_pos h1 h2 (reach n t')
    unfold quantile
    rw [heq]
    have hlh : S (lo (reach n t')) ≤ S (hi (reach n t')) := hS _ _ (by unfold lo hi; omega) (by unfold hi; omega)
    have hhb : S (hi (reach n t')) ≤ ((big : ℝ) : EReal) := hb _ (by unfold hi; omega)
    generalize S (lo (reach n t')) = u at *
    generalize S (hi (reach n t')) = v at *
    induction u with
    | bot => rw [EReal.bot_add, EReal.bot_add]
    | top => exact absurd (hlh.trans hhb) (by simp)
    | coe u =>
      have hd : 0 ≤ v - (u : EReal) := EReal.sub_nonneg (by simp) (by simp) |>.mpr hlh
      exact add_le_add le_rfl (mul_le_mul_of_nonneg_left
        (mul_le_mul_of_nonneg_right (EReal.sub_le_sub h le_rfl) (by exact_mod_cast hgap.le)) hd)

end Quantile

/-! ## The search -/

/-- The position in an ascending table of 102 values: how many are at most `h`, at most 101. -/
def pick (q : ℕ → EReal) (h : EReal) : ℕ := min ((Finset.range 102).filter fun j => q j ≤ h).card 101

/-- One step of the search over an entry count `K`. -/
def step (K b cnt : ℕ) : ℕ := if cnt + b < K then cnt + b + 1 else cnt

theorem step_spec {K b cnt : ℕ} (h : cnt ≤ K ∧ min K 127 ≤ cnt + (2 * b + 1) ∧ cnt + (2 * b + 1) ≤ 127) :
    step K b cnt ≤ K ∧ min K 127 ≤ step K b cnt + b ∧ step K b cnt + b ≤ 127 := by
  unfold step
  split <;> omega

/-- The seven steps of the search. -/
def search (K : ℕ) : ℕ := step K 0 (step K 1 (step K 3 (step K 7 (step K 15 (step K 31 (step K 63 0))))))

/-- The seven steps find the count, as far as 127. -/
theorem search_eq (K : ℕ) : search K = min K 127 := by
  have h63 := step_spec (K := K) (b := 63) (cnt := 0) (by omega)
  have h31 := step_spec (K := K) (b := 31) h63
  have h15 := step_spec (K := K) (b := 15) h31
  have h7 := step_spec (K := K) (b := 7) h15
  have h3 := step_spec (K := K) (b := 3) h7
  have h1 := step_spec (K := K) (b := 1) h3
  have h0 := step_spec (K := K) (b := 0) h1
  unfold search
  omega

/-- The table of 128 lanes: the 102 values, then the filler. -/
def padded (q : ℕ → EReal) (j : ℕ) : EReal := if j < 102 then q j else ((big : ℝ) : EReal)

/-- How many of the 128 lanes are at most `h`. -/
def lanesLe (q : ℕ → EReal) (h : EReal) : ℕ := ((Finset.range 128).filter fun j => padded q j ≤ h).card

section Search

variable {q : ℕ → EReal} (hq : ∀ i j, i ≤ j → j < 102 → q i ≤ q j) (hb : ∀ i, i < 102 → q i ≤ ((big : ℝ) : EReal)) (h : EReal)

include hq hb

theorem padded_mono {i j : ℕ} (hij : i ≤ j) : padded q i ≤ padded q j := by
  unfold padded
  by_cases hj : j < 102
  · rw [if_pos hj, if_pos (by omega)]; exact hq i j hij hj
  · rw [if_neg hj]
    split
    · exact hb i (by assumption)
    · exact le_rfl

theorem lt_lanesLe_iff {j : ℕ} (hj : j < 128) : j < lanesLe q h ↔ padded q j ≤ h :=
  lt_card_iff 128 (fun j => padded q j ≤ h) (fun _ _ hij _ hh => (padded_mono hq hb hij).trans hh) j hj

/-- The search over the 128 lanes, clipped to the 102 values, is the position in the table. -/
theorem search_pick : min (search (lanesLe q h)) 101 = pick q h := by
  rw [search_eq]
  have hK := fun j hj => lt_lanesLe_iff hq hb h (j := j) hj
  have hp := fun j hj => lt_card_iff 102 (fun j => q j ≤ h) (fun _ _ hij hj' hh => (hq _ _ hij hj').trans hh) j hj
  have hle := card_le 102 (fun j => q j ≤ h)
  have hle' : lanesLe q h ≤ 128 := card_le _ _
  have hagree : ∀ j, j < 102 → (j < lanesLe q h ↔ j < ((Finset.range 102).filter fun j => q j ≤ h).card) := fun j hj => by
    rw [hK j (by omega), hp j hj]; unfold padded; rw [if_pos hj]
  unfold pick
  generalize ((Finset.range 102).filter fun j => q j ≤ h).card = k at *
  generalize lanesLe q h = K at *
  have a1 : K ≤ k ∨ k = 102 := by
    by_contra hc
    have := (hagree k (by omega)).mp (by omega)
    omega
  have a2 : k ≤ K := by
    by_contra hc
    have := (hagree K (by omega)).mpr (by omega)
    omega
  omega

end Search

/-! ## The scaling -/

/-- Times one factor plus one shift is the scaling by mean, deviation, weight and bias: for a finite mean and weight, a
    deviation other than zero, and every value and bias. -/
theorem scale_eq (x b : EReal) (m w : ℝ) {s : EReal} (hs : s ≠ 0) :
    x * Ideal.div (w : EReal) s + (b - (m : EReal) * Ideal.div (w : EReal) s) = Ideal.div (x - (m : EReal)) s * (w : EReal) + b := by
  have hinv : ∃ k : ℝ, s⁻¹ = (k : EReal) := by
    induction s with
    | bot => exact ⟨0, by simp⟩
    | top => exact ⟨0, by simp⟩
    | coe s => exact ⟨s⁻¹, (EReal.coe_inv s).symm⟩
  obtain ⟨k, hk⟩ := hinv
  unfold Ideal.div
  rw [if_neg hs, if_neg hs, hk, mul_assoc, mul_comm (k : EReal) (w : EReal), ← EReal.coe_mul]
  generalize w * k = c
  have hd : (x - (m : EReal)) * (c : EReal) = x * (c : EReal) - (m : EReal) * (c : EReal) := by
    rw [← EReal.coe_mul]
    induction x with
    | coe x => rw [← EReal.coe_sub, ← EReal.coe_mul, ← EReal.coe_mul, ← EReal.coe_sub, sub_mul]
    | bot =>
      rw [EReal.bot_sub]
      rcases lt_trichotomy c 0 with hc | hc | hc
      · rw [EReal.bot_mul_coe_of_neg hc, EReal.top_sub_coe]
      · subst hc; simp
      · rw [EReal.bot_mul_coe_of_pos hc, EReal.bot_sub]
    | top =>
      rw [EReal.top_sub_coe]
      rcases lt_trichotomy c 0 with hc | hc | hc
      · rw [EReal.top_mul_coe_of_neg hc, EReal.bot_sub]
      · subst hc; simp
      · rw [EReal.top_mul_coe_of_pos hc, EReal.top_sub_coe]
  rw [hd, sub_eq_add_neg, sub_eq_add_neg, add_assoc, add_comm b]

end Cert.Proof.Model

end
-- ==== Proof.Lookup.lean ====
/- THE TABLE READS OF THE KERNEL BODY AT AN INDEX: `readAt8` and `readWide` read the row at the position the index word
   holds (`readAt8_apply`, `readWide_apply`), and the binary search counts (`counted_apply`). -/
module

public import proofs.«01_k».proof.Proof.Tile
public import proofs.«01_k».proof.Proof.Words
public import proofs.«01_k».proof.Proof.Model
public import Idealize.ShloMosaic.Lib.Pointwise
public import Idealize.ShloMosaic.Lib.Pipeline.Value

@[expose] public section

set_option maxRecDepth 16384

noncomputable section

namespace Cert.Proof.Tile

open Cert.KernelIdeal Cert.KernelIdeal.Gen
open Idealize.ShloMosaic Cert.Proof.Consts Cert.Proof.Words

/-- A position that is not negative is left as it is. -/
theorem wrap_apply (i : IVec S128x128 32) (r j : Fin 128) (m : Nat) (hm : m < 2 ^ 31) (h : i (ix2 r j) = BitVec.ofNat 32 m) :
    wrap i (ix2 r j) = BitVec.ofNat 32 m := by
  unfold wrap
  rw [shapeCast_shapeCast]
  show Scalar.select (IntOp.cmpi .slt (i (ix2 r j)) 0#32) _ (i (ix2 r j)) = _
  rw [word_slt, sel_ite, h, toInt_small hm, if_neg (by simp)]

/-- A row gathered at a position below 128. -/
theorem gather_apply (tbl : FVec Ideal S128x128 .f32) (i : IVec S128x128 32) (r j : Fin 128) (m : Fin 128)
    (h : i (ix2 r j) = BitVec.ofNat 32 m.val) : dynamicGather 1 tbl i (ix2 r j) = tbl (ix2 r m) := by
  rw [dynamicGather_apply]
  refine congrArg tbl (funext fun b => Fin.ext ?_)
  match b with
  | ⟨0, _⟩ => rfl
  | ⟨1, _⟩ =>
    show (i (ix2 r j)).toNat % 128 = m.val
    rw [h, toNat_small (by omega)]
    omega

/-- One chunk: where the position lies in chunk `c` the row is read, elsewhere nothing changes. -/
theorem pickChunk_apply (tbl : FVec Ideal S128x1024 .f32) (loc chunk : IVec S128x128 32) (c : Nat) (hc : c < 8)
    (prev : FVec Ideal S128x128 .f32) (r j : Fin 128) (p : Fin 1024) (hl : loc (ix2 r j) = BitVec.ofNat 32 (p.val % 128))
    (hk : chunk (ix2 r j) = BitVec.ofNat 32 (p.val / 128)) :
    pickChunk tbl loc chunk c hc prev (ix2 r j) = if p.val / 128 = c then tbl (ix2 r p) else prev (ix2 r j) := by
  unfold pickChunk
  show Scalar.select (IntOp.cmpi .eq (chunk (ix2 r j)) (BitVec.ofNat 32 c)) _ _ = _
  rw [word_eq, sel_ite, hk]
  have hw : BitVec.ofNat 32 (p.val / 128) = BitVec.ofNat 32 c ↔ p.val / 128 = c := by
    rw [← BitVec.toNat_inj, toNat_small (by omega), toNat_small (by omega)]
  by_cases h : p.val / 128 = c
  · rw [if_pos (hw.mpr h), if_pos h,
      gather_apply _ _ r j ⟨p.val % 128, Nat.mod_lt _ (by decide)⟩ (wrap_apply loc r j _ (by omega) hl)]
    refine extractStridedSlice_apply _ _ _ _ _ ?_
    intro a
    match a with
    | ⟨0, _⟩ => exact (Nat.zero_add _).symm
    | ⟨1, _⟩ => show p.val = 128 * c + p.val % 128; omega
  · rw [if_neg (fun e => h (hw.mp e)), if_neg h]

/-- The rows read at positions below 1024. -/
theorem readAt8_apply (tbl : FVec Ideal S128x1024 .f32) (i : IVec S128x128 32) (r j : Fin 128) (p : Fin 1024)
    (h : i (ix2 r j) = BitVec.ofNat 32 p.val) : readAt8 tbl i (ix2 r j) = tbl (ix2 r p) := by
  have hl : andi i (broadcast S128x128 127#32) (ix2 r j) = BitVec.ofNat 32 (p.val % 128) := by
    show i (ix2 r j) &&& 127#32 = _
    rw [h, ← BitVec.toNat_inj, BitVec.toNat_and, toNat_small (by omega), toNat_small (by omega), toNat_small (by omega)]
    exact Nat.and_two_pow_sub_one_eq_mod p.val 7
  have hk : shrsi i (broadcast S128x128 7#32) (ix2 r j) = BitVec.ofNat 32 (p.val / 128) := by
    show IntOp.shrsi _ (i (ix2 r j)) 7#32 = _
    rw [h]
    unfold IntOp.shrsi
    rw [if_pos (by decide)]
    show (BitVec.ofNat 32 p.val).sshiftRight 7 = _
    rw [BitVec.sshiftRight_eq_of_msb_false (by rw [BitVec.msb_eq_decide, toNat_small (by omega)]; simp; omega), ← BitVec.toNat_inj,
      BitVec.toNat_ushiftRight, toNat_small (by omega), toNat_small (by omega), Nat.shiftRight_eq_div_pow]
  unfold readAt8
  simp only [pickChunk_apply tbl _ _ _ _ _ r j p hl hk]
  have := p.isLt
  split_ifs <;> first | rfl | omega

/-- A wide read at positions below 128. -/
theorem readWide_apply (tbl : FVec Ideal S128x128 .f32) (i : IVec S128x4096 32) (r : Fin 128) (b : Fin 4096) (p : Fin 128)
    (h : i (ix2 r b) = BitVec.ofNat 32 p.val) : readWide tbl i (ix2 r b) = tbl (ix2 r p) := by
  unfold readWide
  have hb : b.val / 128 < 32 := by have := b.isLt; omega
  refine (concatenate_ofFn_apply (t := S128x4096) (s₁ := S128x128) 1 _ _ rfl 128 rfl (ix2 r b) ⟨b.val / 128, hb⟩ rfl
    (ix2 r (⟨b.val % 128, Nat.mod_lt _ (by decide)⟩ : Fin 128)) rfl
    (fun a ha => by match a, ha with | ⟨0, _⟩, _ => rfl | ⟨1, _⟩, ha => exact absurd rfl ha)).trans ?_
  refine gather_apply tbl _ r _ p (wrap_apply _ r _ _ (by omega) ?_)
  refine (extractStridedSlice_apply _ _ _ _ (ix2 r b) ?_).trans h
  intro a
  match a with
  | ⟨0, _⟩ => exact (Nat.zero_add _).symm
  | ⟨1, _⟩ => show b.val = 128 * (b.val / 128) + b.val % 128; omega

/-- One bit of the search, where the table's first `K` lanes and no others are at most `h`. -/
theorem searchBit_apply (tbl : FVec Ideal S128x128 .f32) (h : FVec Ideal S128x4096 .f32) (r : Fin 128) (b : Fin 4096) (K : Nat)
    (hK : ∀ j : Fin 128, tbl (ix2 r j) ≤ h (ix2 r b) ↔ j.val < K) (s : Nat) (cnt : IVec S128x4096 32) (n : Nat) (hn : n + s < 128)
    (hc : cnt (ix2 r b) = BitVec.ofNat 32 n) :
    searchBit tbl h (BitVec.ofNat 32 s) cnt (ix2 r b) = BitVec.ofNat 32 (Model.step K s n) := by
  have ha : addi cnt (broadcast S128x4096 (BitVec.ofNat 32 s)) (ix2 r b) = BitVec.ofNat 32 (n + s) := by
    show IntOp.addi (cnt (ix2 r b)) _ = _
    rw [hc]; exact add_small n s
  unfold searchBit Model.step
  show Scalar.select (Ideal.cmp .ole (readWide tbl _ (ix2 r b)) (h (ix2 r b)))
    (IntOp.addi (addi cnt (broadcast S128x4096 (BitVec.ofNat 32 s)) (ix2 r b)) 1#32) (cnt (ix2 r b)) = _
  rw [readWide_apply tbl _ r b ⟨n + s, hn⟩ ha, cmp_le, sel_ite, ha, hc]
  have := hK ⟨n + s, hn⟩
  by_cases hlt : n + s < K
  · rw [if_pos (this.mpr hlt), if_pos hlt]
    exact add_small (n + s) 1
  · rw [if_neg (fun e => hlt (this.mp e)), if_neg hlt]

/-- The search, clipped to 101, on a word. -/
theorem counted_apply (tbl : FVec Ideal S128x128 .f32) (h : FVec Ideal S128x4096 .f32) (r : Fin 128) (b : Fin 4096) (K : Nat)
    (hK : ∀ j : Fin 128, tbl (ix2 r j) ≤ h (ix2 r b) ↔ j.val < K) :
    counted tbl h (ix2 r b) = BitVec.ofNat 32 (min (Model.search K) 101) := by
  have step := searchBit_apply tbl h r b K hK
  have g63 := Model.step_spec (K := K) (b := 63) (cnt := 0) (by omega)
  have g31 := Model.step_spec (K := K) (b := 31) g63
  have g15 := Model.step_spec (K := K) (b := 15) g31
  have g7 := Model.step_spec (K := K) (b := 7) g15
  have g3 := Model.step_spec (K := K) (b := 3) g7
  have g1 := Model.step_spec (K := K) (b := 1) g3
  have g0 := Model.step_spec (K := K) (b := 0) g1
  have e := step 0 _ _ (by omega) (step 1 _ _ (by omega) (step 3 _ _ (by omega) (step 7 _ _ (by omega) (step 15 _ _ (by omega)
    (step 31 _ _ (by omega) (step 63 (broadcast S128x4096 0#32) 0 (by omega) rfl))))))
  unfold counted
  refine (congrArg (fun w => IntOp.minsi w 101#32) e).trans ?_
  exact min_small (by omega) (by omega)

end Cert.Proof.Tile

end
-- ==== Proof.Rank.lean ====
/- THE SORTED ENTRIES OF A ROW OF CONTEXT, apart from both programs: `asc u` is the ascending rearrangement of the 1002
   entries `u` followed by a filler, `negCount u` the number of negative entries. An ascending rearrangement is unique, so
   each program's sorted row is `asc u` (`asc_of_perm`, `asc_of_wide`). -/
module

public import proofs.«01_k».proof.Proof.Model
public import Idealize.ShloMosaic.Lib.SortNet.HostSort
public import Idealize.ShloMosaic.Lib.SortNet.Truncated
public import Mathlib.Logic.Equiv.Fin.Basic

@[expose] public section

noncomputable section

namespace Cert.Proof.Model

open Idealize.ShloMosaic Cert.Proof.Consts

/-- Two ascending rearrangements of one family are one. -/
theorem monotone_unique {n : ℕ} (f : Fin n → EReal) (σ τ : Equiv.Perm (Fin n)) (hσ : Monotone (f ∘ σ)) (hτ : Monotone (f ∘ τ)) :
    f ∘ σ = f ∘ τ := by
  have hp : (List.ofFn (f ∘ σ)).Perm (List.ofFn (f ∘ τ)) := (Equiv.Perm.ofFn_comp_perm σ f).trans (Equiv.Perm.ofFn_comp_perm τ f).symm
  refine List.ofFn_injective (List.Perm.eq_of_pairwise (le := fun a b => a ≤ b) (fun _ _ _ _ h h' => le_antisymm h h') ?_ ?_ hp)
  · rw [List.pairwise_ofFn]; exact fun i j hij => hσ hij.le
  · rw [List.pairwise_ofFn]; exact fun i j hij => hτ hij.le

/-- Every family of 1002 entries has an ascending rearrangement. -/
theorem exists_ascending (u : Fin 1002 → EReal) : ∃ τ : Equiv.Perm (Fin 1002), Monotone (u ∘ τ) := by
  obtain ⟨hm, σ, hσ⟩ := SortNet.applyBy_maskNet_sortMasks_sorted (p := 10) (by norm_num) (id : EReal → EReal) u
  rw [hσ, Function.id_comp] at hm
  exact ⟨σ, hm⟩

/-- An ascending rearrangement of the entries. -/
def order (u : Fin 1002 → EReal) : Equiv.Perm (Fin 1002) := (exists_ascending u).choose

theorem order_mono (u : Fin 1002 → EReal) : Monotone (u ∘ order u) := (exists_ascending u).choose_spec

/-- The entries in ascending order, then the filler. -/
def asc (u : Fin 1002 → EReal) (i : ℕ) : EReal :=
  if h : i < 1002 then u (order u ⟨i, h⟩) else ((big : ℝ) : EReal)

/-- How many entries are negative. -/
def negCount (u : Fin 1002 → EReal) : ℕ := (Finset.univ.filter fun i => u i < 0).card

/-- Every ascending rearrangement of the entries is `asc`. -/
theorem asc_of_perm (u : Fin 1002 → EReal) (τ : Equiv.Perm (Fin 1002)) (h : Monotone (u ∘ τ)) (i : Fin 1002) :
    u (τ i) = asc u i.val := by
  unfold asc
  rw [dif_pos i.isLt]
  exact congrFun (monotone_unique u τ _ h (order_mono u)) i

section

variable {u : Fin 1002 → EReal} (hb : ∀ i, u i ≤ ((big : ℝ) : EReal))

include hb in
theorem asc_le (i : ℕ) : asc u i ≤ ((big : ℝ) : EReal) := by
  unfold asc
  split
  · exact hb _
  · exact le_rfl

include hb in
theorem asc_mono {i j : ℕ} (hij : i ≤ j) : asc u i ≤ asc u j := by
  by_cases hj : j < 1002
  · unfold asc
    rw [dif_pos hj, dif_pos (by omega)]
    exact order_mono u (Fin.mk_le_mk.mpr hij)
  · have : asc u j = ((big : ℝ) : EReal) := dif_neg hj
    rw [this]
    exact asc_le hb i

/-- The 1002 entries and 22 fillers. -/
def wide (u : Fin 1002 → EReal) (c : Fin (1002 + 22)) : EReal := if h : c.val < 1002 then u ⟨c.val, h⟩ else ((big : ℝ) : EReal)

/-- The rearrangement of the 1002 entries that leaves the fillers in place. -/
def widePerm (τ : Equiv.Perm (Fin 1002)) : Equiv.Perm (Fin (1002 + 22)) :=
  finSumFinEquiv.permCongr (Equiv.sumCongr τ (Equiv.refl (Fin 22)))

theorem wide_perm (u : Fin 1002 → EReal) (c : Fin (1002 + 22)) : wide u (widePerm (order u) c) = asc u c.val := by
  induction c using Fin.addCases with
  | left i =>
    have : widePerm (order u) (Fin.castAdd 22 i) = Fin.castAdd 22 (order u i) := by
      show finSumFinEquiv (Sum.map (order u) id (finSumFinEquiv.symm (Fin.castAdd 22 i))) = _
      rw [finSumFinEquiv_symm_apply_castAdd]; rfl
    rw [this]
    unfold wide asc
    rw [dif_pos (by exact (order u i).isLt), dif_pos (by exact i.isLt)]
    rfl
  | right i =>
    have : widePerm (order u) (Fin.natAdd 1002 i) = Fin.natAdd 1002 i := by
      show finSumFinEquiv (Sum.map (order u) id (finSumFinEquiv.symm (Fin.natAdd 1002 i))) = _
      rw [finSumFinEquiv_symm_apply_natAdd]; rfl
    rw [this]
    unfold wide asc
    rw [dif_neg (by simp), dif_neg (by simp)]

include hb in
/-- Every ascending rearrangement of the entries and the fillers is `asc`. -/
theorem asc_of_wide (σ : Equiv.Perm (Fin (1002 + 22))) (h : Monotone (wide u ∘ σ)) (c : Fin (1002 + 22)) :
    wide u (σ c) = asc u c.val := by
  rw [← wide_perm]
  refine congrFun (monotone_unique _ σ (widePerm (order u)) h ?_) c
  intro i j hij
  rw [Function.comp_apply, Function.comp_apply, wide_perm, wide_perm]
  exact asc_mono hb hij

end

/-- The negative ones among the sorted entries and the fillers are the negative entries. -/
theorem card_asc_neg (u : Fin 1002 → EReal) :
    (Finset.univ.filter fun c : Fin (1002 + 22) => asc u c.val < 0).card = negCount u := by
  have hbig : ¬ ((big : ℝ) : EReal) < 0 := not_lt.mpr (by exact_mod_cast big_nonneg)
  unfold negCount
  simp only [Finset.card_filter]
  refine (Fin.sum_univ_add _).trans ?_
  have h0 : ∀ i : Fin 22, (if asc u (Fin.natAdd 1002 i).val < 0 then 1 else 0) = 0 := fun i => by
    unfold asc
    rw [dif_neg (by simp), if_neg hbig]
  rw [Finset.sum_congr rfl (fun i _ => h0 i), Finset.sum_const_zero, Nat.add_zero]
  rw [← Equiv.sum_comp (order u) (fun i => if u i < 0 then 1 else 0)]
  refine Finset.sum_congr rfl fun i _ => ?_
  unfold asc
  rw [dif_pos (by exact i.isLt)]
  rfl

/-- Of entries of both signs, at least one is negative and at least one is not. -/
theorem negCount_bounds (u : Fin 1002 → EReal) (i j : Fin 1002) (hi : u i < 0) (hj : ¬ u j < 0) :
    1 ≤ negCount u ∧ negCount u ≤ 1001 := by
  unfold negCount
  constructor
  · exact Finset.card_pos.mpr ⟨i, Finset.mem_filter.mpr ⟨Finset.mem_univ _, hi⟩⟩
  · have hlt : (Finset.univ.filter fun i => u i < 0).card < (Finset.univ : Finset (Fin 1002)).card :=
      Finset.card_lt_card (Finset.filter_ssubset.mpr ⟨j, Finset.mem_univ _, hj⟩)
    rw [Finset.card_univ, Fintype.card_fin] at hlt
    omega

/-! ## A row of context -/

/-- The entries of a row: 1000 values of the context, then -100 and 100. -/
def entries (ctx : Fin 1000 → EReal) (i : Fin 1002) : EReal :=
  if h : i.val < 1000 then ctx ⟨i.val, h⟩ else if i.val = 1000 then ((-100 : ℝ) : EReal) else ((100 : ℝ) : EReal)

theorem entries_le {ctx : Fin 1000 → EReal} (h : ∀ i, ctx i ≤ ((big : ℝ) : EReal)) (i : Fin 1002) :
    entries ctx i ≤ ((big : ℝ) : EReal) := by
  have := hundred_le_big
  unfold entries
  split
  · exact h _
  · split
    · rw [EReal.coe_le_coe_iff]; linarith
    · rw [EReal.coe_le_coe_iff]; linarith

theorem entries_neg (ctx : Fin 1000 → EReal) : 1 ≤ negCount (entries ctx) ∧ negCount (entries ctx) ≤ 1001 := by
  refine negCount_bounds _ ⟨1000, by decide⟩ ⟨1001, by decide⟩ ?_ ?_
  · unfold entries
    rw [dif_neg (by simp), if_pos rfl]
    exact EReal.coe_neg'.mpr (by norm_num)
  · unfold entries
    rw [dif_neg (by simp), if_neg (by simp)]
    exact not_lt.mpr (EReal.coe_nonneg.mpr (by norm_num))

/-- The quantile of a row of context at a level. -/
def quantAt (ctx : Fin 1000 → EReal) (level : EReal) : EReal :=
  quantile (asc (entries ctx)) (negCount (entries ctx)) (level * ((2000 : ℝ) : EReal))

/-- The level whose quantile the value `h` reaches. -/
def levelOf (ctx : Fin 1000 → EReal) (level : ℕ → EReal) (h : EReal) : EReal :=
  level (pick (fun j => quantAt ctx (level j)) h)

section

variable {ctx : Fin 1000 → EReal} (hctx : ∀ i, ctx i ≤ ((big : ℝ) : EReal))

include hctx

theorem quantAt_le (level : EReal) : quantAt ctx level ≤ ((big : ℝ) : EReal) :=
  quantile_le (entries_neg ctx).1 (entries_neg ctx).2 (fun _ _ hij _ => asc_mono (entries_le hctx) hij)
    (fun i _ => asc_le (entries_le hctx) i) _

theorem quantAt_mono {a b : EReal} (h : a ≤ b) : quantAt ctx a ≤ quantAt ctx b :=
  quantile_mono (entries_neg ctx).1 (entries_neg ctx).2 (fun _ _ hij _ => asc_mono (entries_le hctx) hij)
    (fun i _ => asc_le (entries_le hctx) i) (mul_le_mul_of_nonneg_right h (EReal.coe_nonneg.mpr (by norm_num)))

end

end Cert.Proof.Model

end
-- ==== Proof.Table.lean ====
/- THE TABLE OF QUANTILES OF THE KERNEL BODY AT AN INDEX: for sorted rows that hold `asc` of the entries, the table's lane
   `j` is the quantile of the row at level `j`, and the filler from lane 102 on (`table_apply`). -/
module

public import proofs.«01_k».proof.Proof.Lookup
public import proofs.«01_k».proof.Proof.Rank

@[expose] public section

set_option maxRecDepth 16384

noncomputable section

namespace Cert.Proof.Tile

open Cert.KernelIdeal Cert.KernelIdeal.Gen
open Idealize.ShloMosaic Cert.Proof.Consts Cert.Proof.Words

/-- A sum of ones over the places where `p` holds is their number. -/
theorem sum_indicator {n : ℕ} (p : Fin n → Prop) [DecidablePred p] :
    (∑ i, if p i then (1 : EReal) else 0) = (((Finset.univ.filter p).card : ℝ) : EReal) := by
  rw [Finset.sum_ite, Finset.sum_const_zero, add_zero, Finset.sum_const, nsmul_one]
  rfl

/-- A column over the lanes, at an index. -/
theorem over_apply (x : FVec Ideal S128x1 .f32) (r j : Fin 128) : over x (ix2 r j) = x (ix2 r (0 : Fin 1)) :=
  broadcastTo_apply _ _ _ _ (by intro a; match a with | ⟨0, _⟩ => rfl | ⟨1, _⟩ => rfl)

/-- A row over the rows, at an index. -/
theorem overRow_apply (x : FVec Ideal S1x128 .f32) (r j : Fin 128) :
    broadcastTo S128x128 x broadcasts_S1x128_S128x128 (ix2 r j) = x (ix2 (0 : Fin 1) j) :=
  broadcastTo_apply _ _ _ _ (by intro a; match a with | ⟨0, _⟩ => rfl | ⟨1, _⟩ => rfl)

section

variable (sv : FVec Ideal S128x1024 .f32) (x1 : FVec Ideal S1x128 .f32) (r : Fin 128) (u : Fin 1002 → EReal)
  (hsv : ∀ c : Fin 1024, sv (ix2 r c) = Model.asc u c.val)

include hsv in
/-- The count of negative entries. -/
theorem negs_apply : negs sv (ix2 r (0 : Fin 1)) = ((Model.negCount u : ℝ) : EReal) := by
  unfold negs
  pointwise
  rw [← Model.card_asc_neg u, ← sum_indicator]
  refine Finset.sum_congr rfl fun c _ => ?_
  have h : sv (ix2 r c) = Model.asc u c.val := hsv c
  rw [h]
  show ((((BitVec.ofBool (decide (Model.asc u c.val < 0))).setWidth 32).toInt : ℝ) : EReal) = _
  by_cases hc : Model.asc u c.val < 0
  · rw [if_pos hc, decide_eq_true hc, show (BitVec.setWidth 32 (BitVec.ofBool true)).toInt = 1 by decide]; norm_num
  · rw [if_neg hc, decide_eq_false hc]; norm_num

variable (h1 : 1 ≤ Model.negCount u) (h2 : Model.negCount u ≤ 1001)

include hsv

theorem poss_apply : poss sv (ix2 r (0 : Fin 1)) = ((1002 - Model.negCount u : ℝ) : EReal) := by
  show Ideal.ofBits .f32 0x447A8000#32 - negs sv _ = _
  rw [negs_apply sv r u hsv, ofBits_1002, ← EReal.coe_sub]

include h1 in
theorem wneg_apply : wneg sv (ix2 r (0 : Fin 1)) = ((1000 / Model.negCount u : ℝ) : EReal) := by
  have hn : (Model.negCount u : ℝ) ≠ 0 := by exact_mod_cast (by omega : Model.negCount u ≠ 0)
  show Ideal.div (Ideal.ofBits .f32 0x447A0000#32) (negs sv _) = _
  rw [negs_apply sv r u hsv, ofBits_1000, Ideal.div_coe hn, ← EReal.coe_mul, mul_one_div]

include h2 in
theorem wpos_apply : wpos sv (ix2 r (0 : Fin 1)) = ((1000 / (1002 - Model.negCount u) : ℝ) : EReal) := by
  have hr : (Model.negCount u : ℝ) ≤ 1001 := by exact_mod_cast h2
  have hn : (1002 - Model.negCount u : ℝ) ≠ 0 := by linarith
  show Ideal.div (Ideal.ofBits .f32 0x447A0000#32) (poss sv _) = _
  rw [poss_apply sv r u hsv, ofBits_1000, Ideal.div_coe hn, ← EReal.coe_mul, mul_one_div]

include h1 in
theorem tneg_apply : tneg sv (ix2 r (0 : Fin 1)) = ((1000 : ℝ) : EReal) := by
  have hn : (Model.negCount u : ℝ) ≠ 0 := by exact_mod_cast (by omega : Model.negCount u ≠ 0)
  show negs sv _ * wneg sv _ = _
  rw [negs_apply sv r u hsv, wneg_apply sv r u hsv h1, ← EReal.coe_mul]
  congr 1
  field_simp

include h1 h2 in
theorem total_apply : total sv (ix2 r (0 : Fin 1)) = ((2000 : ℝ) : EReal) := by
  have hr : (Model.negCount u : ℝ) ≤ 1001 := by exact_mod_cast h2
  have hn : (1002 - Model.negCount u : ℝ) ≠ 0 := by linarith
  show tneg sv _ + poss sv _ * wpos sv _ = _
  rw [tneg_apply sv r u hsv h1, poss_apply sv r u hsv, wpos_apply sv r u hsv h2, ← EReal.coe_mul, ← EReal.coe_add]
  congr 1
  field_simp
  norm_num

variable (j : Fin 128)

include h1 h2

theorem target_apply : target sv x1 (ix2 r j) = x1 (ix2 (0 : Fin 1) j) * ((2000 : ℝ) : EReal) := by
  unfold target
  rw [shapeCast_self]
  show broadcastTo S128x128 x1 _ (ix2 r j) * over (total sv) (ix2 r j) = _
  rw [overRow_apply, over_apply, total_apply sv r u hsv h1 h2]

theorem reached_apply : reached sv x1 (ix2 r j)
    = (((Model.reach (Model.negCount u) (x1 (ix2 (0 : Fin 1) j) * ((2000 : ℝ) : EReal)) : ℕ) : ℝ) : EReal) := by
  have e1 := ne_of_gt (Model.wneg_pos h1)
  have e2 := ne_of_gt (Model.wpos_pos h2)
  unfold reached
  show min (over (negs sv) (ix2 r j)) (max (Ideal.ofBits .f32 0x00000000#32)
        (Ideal.liftRound Int.floor (Ideal.div (target sv x1 (ix2 r j)) (over (wneg sv) (ix2 r j)))))
      + min (over (poss sv) (ix2 r j)) (max (Ideal.ofBits .f32 0x00000000#32)
        (Ideal.liftRound Int.floor (Ideal.div (target sv x1 (ix2 r j) - over (tneg sv) (ix2 r j)) (over (wpos sv) (ix2 r j))))) = _
  rw [target_apply sv x1 r u hsv h1 h2 j, over_apply, over_apply, over_apply, over_apply, over_apply, negs_apply sv r u hsv,
    poss_apply sv r u hsv, wneg_apply sv r u hsv h1, wpos_apply sv r u hsv h2, tneg_apply sv r u hsv h1, ofBits_zero,
    Ideal.div_coe e1, Ideal.div_coe e2, Model.reach_eq_floors h1 h2, Nat.cast_sub (by omega)]
  norm_num

theorem above_apply : above sv x1 (ix2 r j)
    = (((Model.hi (Model.reach (Model.negCount u) (x1 (ix2 (0 : Fin 1) j) * ((2000 : ℝ) : EReal))) : ℕ) : ℝ) : EReal) := by
  show min (reached sv x1 (ix2 r j)) (Ideal.ofBits .f32 0x4479C000#32) = _
  rw [reached_apply sv x1 r u hsv h1 h2 j, ofBits_999, ← EReal.coe_strictMono.monotone.map_min]
  unfold Model.hi
  rw [Nat.cast_min]
  norm_num

theorem below_apply : below sv x1 (ix2 r j)
    = (((Model.lo (Model.reach (Model.negCount u) (x1 (ix2 (0 : Fin 1) j) * ((2000 : ℝ) : EReal))) : ℕ) : ℝ) : EReal) := by
  show min (Ideal.ofBits .f32 0x4479C000#32) (max (Ideal.ofBits .f32 0x00000000#32)
    (reached sv x1 (ix2 r j) - Ideal.ofBits .f32 0x3F800000#32)) = _
  rw [reached_apply sv x1 r u hsv h1 h2 j, ofBits_999, ofBits_zero, ofBits_one, ← EReal.coe_sub, ← EReal.coe_zero,
    ← EReal.coe_strictMono.monotone.map_max, ← EReal.coe_strictMono.monotone.map_min]
  congr 1
  generalize Model.reach _ _ = a
  unfold Model.lo
  rw [Nat.cast_min, min_comm]
  rcases Nat.eq_zero_or_pos a with rfl | ha
  · norm_num
  · rw [Nat.cast_sub ha, max_eq_right]
    · norm_num
    · have : (1 : ℝ) ≤ a := by exact_mod_cast ha
      push_cast
      linarith

theorem weightAt_apply (p : FVec Ideal S128x128 .f32) (i : ℕ) (hp : p (ix2 r j) = ((i : ℝ) : EReal)) :
    weightAt sv p (ix2 r j) = ((Model.cw (Model.negCount u) i : ℝ) : EReal) := by
  show Scalar.select (Ideal.cmp .olt (p (ix2 r j)) (over (negs sv) (ix2 r j)))
    ((p (ix2 r j) + Ideal.ofBits .f32 0x3F800000#32) * over (wneg sv) (ix2 r j))
    (over (tneg sv) (ix2 r j) + ((p (ix2 r j) - over (negs sv) (ix2 r j)) + Ideal.ofBits .f32 0x3F800000#32) * over (wpos sv) (ix2 r j)) = _
  rw [cmp_lt, sel_ite, over_apply, over_apply, over_apply, over_apply, negs_apply sv r u hsv, wneg_apply sv r u hsv h1,
    wpos_apply sv r u hsv h2, tneg_apply sv r u hsv h1, hp, ofBits_one]
  unfold Model.cw
  by_cases hi : i < Model.negCount u
  · rw [if_pos hi, if_pos (by exact_mod_cast hi), ← EReal.coe_add, ← EReal.coe_mul]
  · rw [if_neg hi, if_neg (by exact_mod_cast hi), ← EReal.coe_sub, ← EReal.coe_add, ← EReal.coe_mul, ← EReal.coe_add]

theorem quant_apply : quant sv x1 (ix2 r j)
    = Model.quantile (Model.asc u) (Model.negCount u) (x1 (ix2 (0 : Fin 1) j) * ((2000 : ℝ) : EReal)) := by
  have hb := below_apply sv x1 r u hsv h1 h2 j
  have ha := above_apply sv x1 r u hsv h1 h2 j
  have ht := target_apply sv x1 r u hsv h1 h2 j
  have hgap := Model.gap_pos h1 h2 (Model.reach (Model.negCount u) (x1 (ix2 (0 : Fin 1) j) * ((2000 : ℝ) : EReal)))
  have read : ∀ (p : FVec Ideal S128x128 .f32) (i : ℕ), i < 1024 → p (ix2 r j) = ((i : ℝ) : EReal) →
      readAt8 sv (fptosi 32 p) (ix2 r j) = Model.asc u i := by
    intro p i hi hp
    rw [readAt8_apply sv _ r j ⟨i, hi⟩ (by
      show Ideal.fptosi 32 (p (ix2 r j)) = _
      rw [hp]; exact fptosi_nat (by omega)), hsv]
  have rb := read _ _ (by unfold Model.lo; omega) hb
  have ra := read _ _ (by unfold Model.hi; omega) ha
  have cb := weightAt_apply sv r u hsv h1 h2 j _ _ hb
  have ca := weightAt_apply sv r u hsv h1 h2 j _ _ ha
  unfold quant Model.quantile
  show readAt8 sv (fptosi 32 (below sv x1)) (ix2 r j)
    + Ideal.div ((readAt8 sv (fptosi 32 (above sv x1)) (ix2 r j) - readAt8 sv (fptosi 32 (below sv x1)) (ix2 r j))
        * (target sv x1 (ix2 r j) - weightAt sv (below sv x1) (ix2 r j)))
      ((weightAt sv (above sv x1) (ix2 r j) - weightAt sv (below sv x1) (ix2 r j)) + Ideal.ofBits .f32 0x358637BD#32) = _
  rw [rb, ra, cb, ca, ht, ofBits_tiny, ← EReal.coe_sub, ← EReal.coe_add, Ideal.div_coe (ne_of_gt (one_div_pos.mp hgap)), mul_assoc]

/-- The table's lanes: the quantiles, then the filler. -/
theorem table_apply : table sv x1 (ix2 r j)
    = if j.val < 102 then Model.quantile (Model.asc u) (Model.negCount u) (x1 (ix2 (0 : Fin 1) j) * ((2000 : ℝ) : EReal))
      else ((big : ℝ) : EReal) := by
  unfold table
  show Scalar.select (IntOp.cmpi .sge (iota .tc S128x128 32 [1] _ (ix2 r j)) 102#32) (Ideal.ofBits .f32 0x7149F2CA#32) (quant sv x1 (ix2 r j)) = _
  rw [iota_single_apply, word_sge, sel_ite, quant_apply sv x1 r u hsv h1 h2 j, ofBits_big]
  have e : (102#32 : BitVec 32).toInt ≤ (BitVec.ofNat 32 ((ix2 r j : S128x128.Idx) 1).val).toInt ↔ 102 ≤ j.val := by
    rw [toInt_small (n := 102) (by omega), toInt_small (by have := j.isLt; show j.val < _; omega)]
    exact Nat.cast_le
  by_cases hj : j.val < 102
  · rw [if_neg (by rw [e]; omega), if_pos hj]
  · rw [if_pos (by rw [e]; omega), if_neg hj]

end

end Cert.Proof.Tile

end
-- ==== Proof.SortRows.lean ====
/- THE SORT OF THE KERNEL BODY, ROW BY ROW: turns by `2 ^ s` lanes, compare-exchange stages and sign flips are the bitonic
   sorting network on 1024 positions (`row_sorted`), so every row comes out ascending and rearranged (`sorted_mono`,
   `sorted_perm`). -/
module

public import proofs.«01_k».proof.Proof.Tile
public import proofs.«01_k».proof.Proof.Words
public import Idealize.ShloMosaic.Lib.SortNet.Sorts
public import Idealize.ShloMosaic.Lib.Pointwise
public import Idealize.ShloMosaic.Lib.Pipeline.Value

@[expose] public section

set_option maxRecDepth 16384

noncomputable section

namespace Cert.Proof.Tile

open Cert.KernelIdeal Cert.KernelIdeal.Gen
open Idealize.ShloMosaic Idealize.ShloMosaic.SortNet Cert.Proof.Consts Cert.Proof.Words

/-- Row `r` of a block of 1024 lanes. -/
def row (x : FVec Ideal S128x1024 .f32) (r : Fin 128) (c : Fin (2 ^ 10)) : EReal :=
  x (ix2 r (⟨c.val, c.isLt⟩ : Fin 1024))

/-- A turned row at lane `c` is the row at lane `c + o`, around the end. -/
theorem row_turn (o n : Nat) (h : o + n = 1024) (x : FVec Ideal S128x1024 .f32) (r : Fin 128) (c d : Fin (2 ^ 10))
    (hd : d.val = (c.val + o) % 1024) : row (turn o n h x) r c = row x r d := by
  have hc : c.val < 1024 := c.isLt
  unfold row turn
  by_cases hlt : c.val < n
  · refine (concatenate_pair_apply_left (t := S128x1024) (s₁ := colsShape n) (s₂ := colsShape o) 1 _ _ _ _ rfl (ix2 r ⟨c.val, hlt⟩) ?_).trans ?_
    · intro b; match b with | ⟨0, _⟩ => rfl | ⟨1, _⟩ => rfl
    · refine extractStridedSlice_apply _ _ _ _ _ ?_
      intro a
      match a with
      | ⟨0, _⟩ => exact (Nat.zero_add _).symm
      | ⟨1, _⟩ => show d.val = o + c.val; omega
  · refine (concatenate_pair_apply_right (t := S128x1024) (s₁ := colsShape n) (s₂ := colsShape o) 1 _ _ _ _ rfl rfl (ix2 r ⟨c.val - n, by omega⟩) ?_ ?_).trans ?_
    · intro b hb; match b, hb with | ⟨0, _⟩, _ => rfl | ⟨1, _⟩, hb => exact absurd rfl hb
    · show c.val - n + n = c.val; omega
    · refine extractStridedSlice_apply _ _ _ _ _ ?_
      intro a
      match a with
      | ⟨0, _⟩ => exact (Nat.zero_add _).symm
      | ⟨1, _⟩ => show d.val = 0 + (c.val - n); omega

theorem and_word (c k : Nat) (hc : c < 2 ^ 32) (hk : k < 2 ^ 32) :
    (BitVec.ofNat 32 c &&& BitVec.ofNat 32 k = 0#32) ↔ c &&& k = 0 := by
  rw [← BitVec.toNat_inj, BitVec.toNat_and, BitVec.toNat_ofNat, BitVec.toNat_ofNat, Nat.mod_eq_of_lt hc, Nat.mod_eq_of_lt hk]
  rfl

/-- The row of clear bits at lane `c`. -/
theorem clearRow_apply (s : Nat) (hs : s ≤ 10) (i : Fin 1) (c : Fin 1024) :
    clearRow (2 ^ s) (ix2 i c) = if c.val &&& 2 ^ s = 0 then 1#1 else 0#1 := by
  have h2 : 2 ^ s < 2 ^ 32 := Nat.pow_lt_pow_right (by decide) (by omega)
  have h := and_word c.val (2 ^ s) (by omega) h2
  unfold clearRow lanes
  pointwise
  rw [word_eq]
  exact if_congr h rfl rfl

/-- A flipped row: the entries whose lane has the bit set, negated. -/
theorem row_flip (s : Nat) (hs : s ≤ 10) (x : FVec Ideal S128x1024 .f32) (r : Fin 128) (c : Fin (2 ^ 10)) :
    row (flip (2 ^ s) x) r c = if c.val &&& 2 ^ s = 0 then row x r c else - row x r c := by
  unfold row flip
  rw [mulf_apply, broadcastTo_apply _ broadcasts_S1x1024_S128x1024 _ (ix2 (0 : Fin 1) (⟨c.val, c.isLt⟩ : Fin 1024))
    (by intro a; match a with | ⟨0, _⟩ => rfl | ⟨1, _⟩ => rfl)]
  unfold signRow
  show x (ix2 r ⟨c.val, _⟩) * Scalar.select (clearRow (2 ^ s) _) (Ideal.ofBits .f32 0x3F800000#32) (Ideal.ofBits .f32 0xBF800000#32) = _
  rw [clearRow_apply s hs, sel_ite, ofBits_one, ofBits_neg_one]
  split
  · rw [EReal.coe_one, mul_one]
  · rw [EReal.coe_neg, EReal.coe_one, mul_neg, mul_one]

/-- A stage of a row is a stage of the network. -/
theorem row_stage (s : Nat) (hs : s < 10) (x : FVec Ideal S128x1024 .f32) (r : Fin 128) :
    row (stage s hs x) r = Network.apply (SortNet.stage 10 s fun _ => false) (row x r) := by
  have h2 := two_pow_le s hs
  funext c
  have hc : c.val < 1024 := c.isLt
  have key : row (stage s hs x) r c = if c.val &&& 2 ^ s = 0
      then min (row x r c) (row (turn (2 ^ s) (1024 - 2 ^ s) (by omega) x) r c)
      else max (row x r c) (row (turn (1024 - 2 ^ s) (2 ^ s) (by omega) x) r c) := by
    unfold row stage
    show Scalar.select (broadcastTo S128x1024 _ _ _) (min _ _) (max _ _) = _
    rw [broadcastTo_apply _ broadcasts_S1x1024_S128x1024 _ (ix2 (0 : Fin 1) (⟨c.val, c.isLt⟩ : Fin 1024))
      (by intro a; match a with | ⟨0, _⟩ => rfl | ⟨1, _⟩ => rfl), shapeCast_self, clearRow_apply s hs.le, sel_ite]
  rw [key]
  by_cases hb : c.val &&& 2 ^ s = 0
  · rw [if_pos hb, (apply_stage hs (fun _ => false) (row x r) c hb).1, if_neg (by simp)]
    have hv := partner_val_of_clear hs c hb
    have hp : (partner 10 s c).val < 1024 := (partner 10 s c).isLt
    rw [row_turn _ _ _ x r c (partner 10 s c) (by omega)]
  · rw [if_neg hb]
    have hv := partner_val_of_set hs c hb
    have h := (apply_stage hs (fun _ => false) (row x r) (partner 10 s c) (partner_and_of_set hs c hb)).2
    rw [partner_partner hs, if_neg (by simp)] at h
    rw [h, max_comm, row_turn _ _ _ x r c (partner 10 s c) (by omega)]

/-- The stages of a merge as a network, the greater entry to the earlier lane where `low` says so. -/
def mergeNet (low : Fin (2 ^ 10) → Bool) (n : Nat) : Network (2 ^ 10) :=
  (List.range n).reverse.flatMap fun s => SortNet.stage 10 s low

theorem mergeNet_succ (low : Fin (2 ^ 10) → Bool) (n : Nat) :
    mergeNet low (n + 1) = SortNet.stage 10 n low ++ mergeNet low n := by
  unfold mergeNet
  rw [List.range_succ, List.reverse_append, List.reverse_singleton, List.singleton_append, List.flatMap_cons]

/-- A merge of a row is the merge network. -/
theorem row_merge (n : Nat) (hn : n ≤ 10) (x : FVec Ideal S128x1024 .f32) (r : Fin 128) :
    row (merge n hn x) r = Network.apply (mergeNet (fun _ => false) n) (row x r) := by
  induction n generalizing x with
  | zero => rfl
  | succ n ih => rw [merge, ih, row_stage, mergeNet_succ, Network.apply_append]

/-- The entries of a row negated at the lanes with bit `k` set. -/
def signed (k : Nat) (v : Fin (2 ^ 10) → EReal) (c : Fin (2 ^ 10)) : EReal := if c.val &&& 2 ^ k = 0 then v c else - v c

/-- Which lanes take the greater entry at level `l`: those with bit `l + 1` set. -/
def highAt (k : Nat) (c : Fin (2 ^ 10)) : Bool := (decide (c.val &&& 2 ^ k = 0)) == false

theorem signed_signed (k : Nat) (v : Fin (2 ^ 10) → EReal) : signed k (signed k v) = v := by
  funext c
  unfold signed
  split
  · rfl
  · rw [neg_neg]

/-- A number whose bit `k` is clear, masked by that bit. -/
theorem and_pow_zero (a k : Nat) (h : a.testBit k = false) : a &&& 2 ^ k = 0 := by
  apply Nat.eq_of_testBit_eq
  intro t
  rw [Nat.testBit_and, Nat.zero_testBit]
  by_cases htk : t = k
  · rw [htk, h, Bool.false_and]
  · rw [Nat.testBit_two_pow_of_ne (fun e => htk e.symm), Bool.and_false]

/-- A partner at a distance below bit `k` has the same bit `k`. -/
theorem partner_bit {s k : Nat} (hs : s < 10) (hk : s < k) (c : Fin (2 ^ 10)) :
    (partner 10 s c).val &&& 2 ^ k = c.val &&& 2 ^ k := by
  rw [partner_val hs, Nat.and_xor_distrib_right, and_pow_zero (2 ^ s) k (Nat.testBit_two_pow_of_ne (by omega)), Nat.xor_zero]

/-- Between two sign changes a stage to the lesser entry is a stage that turns around where the signs are changed. -/
theorem stage_signed {s k : Nat} (hs : s < 10) (hk : s < k) (v : Fin (2 ^ 10) → EReal) :
    Network.apply (SortNet.stage 10 s fun _ => false) (signed k v) = signed k (Network.apply (SortNet.stage 10 s (highAt k)) v) := by
  have main : ∀ c : Fin (2 ^ 10), c.val &&& 2 ^ s = 0 →
      Network.apply (SortNet.stage 10 s fun _ => false) (signed k v) c = signed k (Network.apply (SortNet.stage 10 s (highAt k)) v) c ∧
      Network.apply (SortNet.stage 10 s fun _ => false) (signed k v) (partner 10 s c)
        = signed k (Network.apply (SortNet.stage 10 s (highAt k)) v) (partner 10 s c) := by
    intro c hc
    have e0 := apply_stage hs (fun _ => false) (signed k v) c hc
    have e1 := apply_stage hs (highAt k) v c hc
    rw [e0.1, e0.2]
    have hp := partner_bit hs hk c
    unfold signed
    rw [e1.1, e1.2, hp]
    unfold highAt
    by_cases hb : c.val &&& 2 ^ k = 0
    · simp [hb]
    · simp [hb, EReal.max_neg_neg, EReal.min_neg_neg]
  funext c
  by_cases hc : c.val &&& 2 ^ s = 0
  · exact (main c hc).1
  · have h := (main (partner 10 s c) (partner_and_of_set hs c hc)).2
    rwa [partner_partner hs] at h

/-- The same for a whole merge. -/
theorem merge_signed {n k : Nat} (hn : n ≤ 10) (hk : n ≤ k) (v : Fin (2 ^ 10) → EReal) :
    Network.apply (mergeNet (fun _ => false) n) (signed k v) = signed k (Network.apply (mergeNet (highAt k) n) v) := by
  induction n generalizing v with
  | zero => rfl
  | succ n ih =>
    rw [mergeNet_succ, mergeNet_succ, Network.apply_append, Network.apply_append, stage_signed (by omega) (by omega), ih (by omega) (by omega)]

theorem row_flip' (k : Nat) (hk : k ≤ 10) (x : FVec Ideal S128x1024 .f32) (r : Fin 128) : row (flip (2 ^ k) x) r = signed k (row x r) :=
  funext fun c => row_flip k hk x r c

/-- The first `l` levels of the sorting network. -/
def levelsNet (l : Nat) : Network (2 ^ 10) := (List.range l).flatMap fun l => mergeNet (highAt (l + 1)) (l + 1)

theorem levelsNet_succ (l : Nat) : levelsNet (l + 1) = levelsNet l ++ mergeNet (highAt (l + 1)) (l + 1) := by
  unfold levelsNet
  rw [List.range_succ, List.flatMap_append, List.flatMap_singleton]

theorem row_levels (l : Nat) (hl : l ≤ 9) (x : FVec Ideal S128x1024 .f32) (r : Fin 128) :
    row (levels l hl x) r = Network.apply (levelsNet l) (row x r) := by
  induction l with
  | zero => rfl
  | succ l ih =>
    rw [levels, row_flip' _ (by omega), row_merge, row_flip' _ (by omega), merge_signed (by omega) (by omega), signed_signed, ih,
      levelsNet_succ, Network.apply_append]

/-- No lane has bit 10 set, so the last level goes one way. -/
theorem highAt_top : highAt 10 = fun _ => false := by
  funext c
  unfold highAt
  have : c.val &&& 2 ^ 10 = 0 := and_pow_zero _ _ (Nat.testBit_lt_two_pow c.isLt)
  rw [this]
  rfl

/-- A sorted row is the sorting network of the row. -/
theorem row_sorted (x : FVec Ideal S128x1024 .f32) (r : Fin 128) :
    row (sorted x) r = Network.apply (sortNet 10 false) (row x r) := by
  unfold sorted
  rw [row_merge, row_levels, ← Network.apply_append]
  have h : sortNet 10 false = levelsNet 10 := rfl
  rw [h, levelsNet_succ 9, highAt_top]

theorem sorted_mono (x : FVec Ideal S128x1024 .f32) (r : Fin 128) : Monotone (row (sorted x) r) := by
  rw [row_sorted]; exact sortNet_apply_monotone 10 _

theorem sorted_perm (x : FVec Ideal S128x1024 .f32) (r : Fin 128) :
    ∃ σ : Equiv.Perm (Fin (2 ^ 10)), row (sorted x) r = row x r ∘ σ := by
  rw [row_sorted]; exact Network.exists_perm _ _

end Cert.Proof.Tile

end
-- ==== Proof.TileValue.lean ====
/- THE BLOCK THE KERNEL BODY STORES, AT AN INDEX: the level of the table that the scaled feature reaches, scaled again
   (`tile_apply`). -/
module

public import proofs.«01_k».proof.Proof.Table
public import proofs.«01_k».proof.Proof.SortRows

@[expose] public section

set_option maxRecDepth 16384

noncomputable section

namespace Cert.Proof.Tile

open Cert.KernelIdeal Cert.KernelIdeal.Gen
open Idealize.ShloMosaic Cert.Proof.Consts Cert.Proof.Words

/-- A sorted row that holds 1002 entries and fillers is their ascending rearrangement. -/
theorem sorted_apply (x : FVec Ideal S128x1024 .f32) (r : Fin 128) (u : Fin 1002 → EReal) (hb : ∀ i, u i ≤ ((big : ℝ) : EReal))
    (hx : ∀ c : Fin 1024, x (ix2 r c) = Model.wide u c) (c : Fin 1024) : sorted x (ix2 r c) = Model.asc u c.val := by
  have hrow : row x r = Model.wide u := funext hx
  have hm := sorted_mono x r
  obtain ⟨σ, hσ⟩ := sorted_perm x r
  rw [hσ, hrow] at hm
  have h := congrFun hσ c
  rw [hrow] at h
  exact h.trans (Model.asc_of_wide hb σ hm c)

/-- A column over the batch, at an index. -/
theorem overWide_apply (x : FVec Ideal S128x1 .f32) (r : Fin 128) (b : Fin 4096) : overWide x (ix2 r b) = x (ix2 r (0 : Fin 1)) := by
  unfold overWide
  rw [shapeCast_self]
  exact broadcastTo_apply _ _ _ _ (by intro a; match a with | ⟨0, _⟩ => rfl | ⟨1, _⟩ => rfl)

theorem hidden_apply (x2 : FVec Ideal S4096x128 .f32) (x3 x4 : FVec Ideal S128x1 .f32) (r : Fin 128) (b : Fin 4096) :
    hidden x2 x3 x4 (ix2 r b) = x2 (ix2 b r) * x3 (ix2 r (0 : Fin 1)) + x4 (ix2 r (0 : Fin 1)) := by
  show transpose S128x4096 [1, 0] x2 _ (ix2 r b) * overWide x3 (ix2 r b) + overWide x4 (ix2 r b) = _
  rw [overWide_apply, overWide_apply, transpose_apply _ _ _ _ (ix2 b r)]
  intro a
  match a with
  | ⟨0, _⟩ => rfl
  | ⟨1, _⟩ => rfl

/-- What the body stores for row `b` of the batch and feature `r` of the block. -/
theorem tile_apply (x0 : FVec Ideal S128x1024 .f32) (x1 : FVec Ideal S1x128 .f32) (x2 : FVec Ideal S4096x128 .f32)
    (x3 x4 x5 x6 : FVec Ideal S128x1 .f32) (b : Fin 4096) (r : Fin 128) (ctx : Fin 1000 → EReal) (level : ℕ → EReal)
    (hctx : ∀ i, ctx i ≤ ((big : ℝ) : EReal)) (hx0 : ∀ c : Fin 1024, x0 (ix2 r c) = Model.wide (Model.entries ctx) c)
    (hx1 : ∀ j : Fin 128, j.val < 102 → x1 (ix2 (0 : Fin 1) j) = level j.val)
    (hlevel : ∀ i j, i ≤ j → j < 102 → level i ≤ level j) :
    tile x0 x1 x2 x3 x4 x5 x6 (ix2 b r)
      = Model.levelOf ctx level (x2 (ix2 b r) * x3 (ix2 r (0 : Fin 1)) + x4 (ix2 r (0 : Fin 1))) * x5 (ix2 r (0 : Fin 1))
        + x6 (ix2 r (0 : Fin 1)) := by
  have hb := Model.entries_le hctx
  have hn := Model.entries_neg ctx
  unfold tile
  rw [transpose_apply _ _ _ _ (ix2 r b) (by intro a; match a with | ⟨0, _⟩ => rfl | ⟨1, _⟩ => rfl), shapeCast_self]
  have hT : ∀ j : Fin 128, table (sorted x0) x1 (ix2 r j) = Model.padded (fun j => Model.quantAt ctx (level j)) j.val := by
    intro j
    rw [table_apply (sorted x0) x1 r (Model.entries ctx) (sorted_apply x0 r _ hb hx0) hn.1 hn.2 j]
    unfold Model.padded Model.quantAt
    by_cases hj : j.val < 102
    · rw [if_pos hj, if_pos hj, hx1 j hj]
    · rw [if_neg hj, if_neg hj]
  have hq : ∀ i j, i ≤ j → j < 102 → Model.quantAt ctx (level i) ≤ Model.quantAt ctx (level j) :=
    fun i j hij hj => Model.quantAt_mono hctx (hlevel i j hij hj)
  have hqb : ∀ i, i < 102 → Model.quantAt ctx (level i) ≤ ((big : ℝ) : EReal) := fun i _ => Model.quantAt_le hctx _
  have hc := counted_apply (table (sorted x0) x1) (hidden x2 x3 x4) r b
    (Model.lanesLe (fun j => Model.quantAt ctx (level j)) (hidden x2 x3 x4 (ix2 r b)))
    (fun j => by rw [hT j]; exact (Model.lt_lanesLe_iff hq hqb _ j.isLt).symm)
  rw [Model.search_pick hq hqb] at hc
  have hp : Model.pick (fun j => Model.quantAt ctx (level j)) (hidden x2 x3 x4 (ix2 r b)) < 102 := by unfold Model.pick; omega
  show readWide (levelRows x1) _ (ix2 r b) * overWide x5 (ix2 r b) + overWide x6 (ix2 r b) = _
  rw [overWide_apply, overWide_apply, readWide_apply _ _ r b ⟨_, by omega⟩ hc]
  unfold levelRows Model.levelOf
  rw [shapeCast_self, shapeCast_self, overRow_apply, hx1 _ hp, ← hidden_apply]
  rfl

end Cert.Proof.Tile

end
-- ==== Proof.Open.lean ====
/- WHAT THE RUN LEAVES IN THE OUTPUT BLOCK: `Tile.tile` of the input blocks (`out_eq_tile`). The run found one piece, the
   whole block, and its payload is the body's text. -/
module

public import proofs.«01_k».proof.Proof.Gen.KernelIdeal.Value
public import proofs.«01_k».proof.Proof.Tile

@[expose] public section

set_option maxRecDepth 100000

noncomputable section

namespace Cert.Proof

open Cert.KernelIdeal Cert.KernelIdeal.Gen
open Idealize.ShloMosaic Idealize.ShloMosaic.TcCoe

variable {F : FTy → Type} [FloatOps F]

/-- The block's one piece, at the loads' values: the whole block, holding `Tile.tile` of them. -/
theorem pieces_eq (c : Dev nD) (i : grid0.Coords) (arg1 : Memref sig .tc .vmem S128x1024 .f32) (harg1 : arg1.IsWhole) (arg2 : Memref sig .tc .vmem S1x128 .f32) (harg2 : arg2.IsWhole)
    (arg3 : Memref sig .tc .vmem S4096x128 .f32) (harg3 : arg3.IsWhole) (arg4 : Memref sig .tc .vmem S128x1 .f32) (harg4 : arg4.IsWhole) (arg5 : Memref sig .tc .vmem S128x1 .f32) (harg5 : arg5.IsWhole)
    (arg6 : Memref sig .tc .vmem S128x1 .f32) (harg6 : arg6.IsWhole) (arg7 : Memref sig .tc .vmem S128x1 .f32) (harg7 : arg7.IsWhole) (arg8 : Memref sig .tc .vmem S4096x128 .f32) (harg8 : arg8.IsWhole)
    (arg9 : Memref sig .tc .vmem S8x128 .f32) (harg9 : arg9.IsWhole)
    (x0 : Vec F S128x1024 .f32) (x1 : Vec F S1x128 .f32) (x2 : Vec F S4096x128 .f32) (x3 x4 x5 x6 : Vec F S128x1 .f32) :
    (kernelRun0_A c i arg1 harg1 arg2 harg2 arg3 harg3 arg4 harg4 arg5 harg5 arg6 harg6 arg7 harg7 arg8 harg8 arg9 harg9 x0 x1 x2 x3 x4 x5 x6).1
      = [⟨Rect.unit (s := S4096x128) ![0, 0] S4096x128.size inb_S4096x128_S4096x128_0_0,
          Tile.tile
            (arg1.view.readAt (Elt F) (Rect.unit (s := S128x1024) ![0, 0] S128x1024.size inb_S128x1024_S128x1024_0_0).toLoadRect (harg1.unread x0))
            (arg2.view.readAt (Elt F) (Rect.unit (s := S1x128) ![0, 0] S1x128.size inb_S1x128_S1x128_0_0).toLoadRect (harg2.unread x1))
            (arg3.view.readAt (Elt F) (Rect.unit (s := S4096x128) ![0, 0] S4096x128.size inb_S4096x128_S4096x128_0_0).toLoadRect (harg3.unread x2))
            (arg4.view.readAt (Elt F) (Rect.unit (s := S128x1) ![0, 0] S128x1.size inb_S128x1_S128x1_0_0).toLoadRect (harg4.unread x3))
            (arg5.view.readAt (Elt F) (Rect.unit (s := S128x1) ![0, 0] S128x1.size inb_S128x1_S128x1_0_0).toLoadRect (harg5.unread x4))
            (arg6.view.readAt (Elt F) (Rect.unit (s := S128x1) ![0, 0] S128x1.size inb_S128x1_S128x1_0_0).toLoadRect (harg6.unread x5))
            (arg7.view.readAt (Elt F) (Rect.unit (s := S128x1) ![0, 0] S128x1.size inb_S128x1_S128x1_0_0).toLoadRect (harg7.unread x6))⟩] := by
  sl_kernel_rfl

/-- WHAT THE RUN LEAVES in the output block: `Tile.tile` of the seven input blocks. -/
theorem out_eq_tile (c : Dev nD) (i : grid0.Coords) (arg1 : Memref sig .tc .vmem S128x1024 .f32) (harg1 : arg1.IsWhole) (arg2 : Memref sig .tc .vmem S1x128 .f32) (harg2 : arg2.IsWhole)
    (arg3 : Memref sig .tc .vmem S4096x128 .f32) (harg3 : arg3.IsWhole) (arg4 : Memref sig .tc .vmem S128x1 .f32) (harg4 : arg4.IsWhole) (arg5 : Memref sig .tc .vmem S128x1 .f32) (harg5 : arg5.IsWhole)
    (arg6 : Memref sig .tc .vmem S128x1 .f32) (harg6 : arg6.IsWhole) (arg7 : Memref sig .tc .vmem S128x1 .f32) (harg7 : arg7.IsWhole) (arg8 : Memref sig .tc .vmem S4096x128 .f32) (harg8 : arg8.IsWhole)
    (arg9 : Memref sig .tc .vmem S8x128 .f32) (harg9 : arg9.IsWhole)
    (x0 : Vec F S128x1024 .f32) (x1 : Vec F S1x128 .f32) (x2 : Vec F S4096x128 .f32) (x3 x4 x5 x6 : Vec F S128x1 .f32) :
    out0_A_7 c i arg1 harg1 arg2 harg2 arg3 harg3 arg4 harg4 arg5 harg5 arg6 harg6 arg7 harg7 arg8 harg8 arg9 harg9 x0 x1 x2 x3 x4 x5 x6
      = Tile.tile x0 x1 x2 x3 x4 x5 x6 := by
  have hz : (![0, 0] : Fin 2 → Nat) = fun _ => 0 := by funext a; fin_cases a <;> rfl
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6),
    pieces_eq, View.canon_unit_zero hz]
  simp only [View.readAt_eq_ld, harg1.read_unread, harg2.read_unread, harg3.read_unread, harg4.read_unread, harg5.read_unread,
    harg6.read_unread, harg7.read_unread, View.ld_unit_zero (S := S128x1024) hz, View.ld_unit_zero (S := S1x128) hz,
    View.ld_unit_zero (S := S4096x128) hz, View.ld_unit_zero (S := S128x1) hz]

end Cert.Proof

end
-- ==== Proof.Prefix.lean ====
/- WHAT THE KERNEL'S WINDOWS READ: THE ARRAYS THAT THE PROGRAM COMPUTES BEFORE THE KERNEL. -/
module

public import proofs.«01_k».proof.Proof.Gen.KernelIdeal.Value
public import proofs.«01_k».proof.Proof.TileValue
public import proofs.«01_k».proof.Proof.Open
public import Idealize.ShloMosaic.Lib.Pointwise
public import Idealize.ShloMosaic.Lib.Pipeline.Value
public import Idealize.ShloMosaic.Lib.ValueIdx

@[expose] public section

set_option maxRecDepth 16384

noncomputable section

namespace Cert.Proof.Prefix

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The padded context rows. -/
theorem V_v3 : V m c main_v3 = concatenate S1024x1024 1 [⟨S1024x1000, m ((c : Thread nD τ).loc main_arg10)⟩,
    ⟨S1024x1, broadcastInDim S1024x1 ![] bcast_S_S1024x1 (constant S_ .f32 0xC2C80000#32)⟩,
    ⟨S1024x1, broadcastInDim S1024x1 ![] bcast_S_S1024x1 (constant S_ .f32 0x42C80000#32)⟩,
    ⟨S1024x22, broadcastInDim S1024x22 ![] bcast_S_S1024x22 (constant S_ .f32 0x7149F2CA#32)⟩]
    concatenates_S1024x1000_S1024x1_S1024x1_S1024x22_S1024x1024_d1 := by
  show StableHlo.after hostOps0 _ (Proc.devRef .tc main_v3) = _
  after_results
  rfl

/-- The padded levels. -/
theorem V_v6 : V m c main_v6 = shapeCast S1x128 (concatenate S128 0 [⟨S102, m ((c : Thread nD τ).loc main_arg9)⟩,
    ⟨S26, broadcastInDim S26 ![] bcast_S_S26 (constant S_ .f32 0x3F7D70A4#32)⟩] concatenates_S102_S26_S128_d0) shapeCasts_S128_S1x128 := by
  show StableHlo.after hostOps0 _ (Proc.devRef .tc main_v6) = _
  after_results
  rfl
/-- A folded slope: the weight over the square root of the variance and its floor, as a column. -/
def slope (w v : FVec F S1024 .f32) : FVec F S1024x1 .f32 := shapeCast S1024x1 (Host.divf w (Host.sqrt (addf v (broadcastInDim S1024 ![] bcast_S_S1024 (constant S_ .f32 0x3727C5AC#32))))) shapeCasts_S1024_S1024x1

/-- A folded offset: the bias less the mean times the slope, as a column. -/
def offset (w b μ v : FVec F S1024 .f32) : FVec F S1024x1 .f32 :=
  subf (shapeCast S1024x1 b shapeCasts_S1024_S1024x1) (mulf (shapeCast S1024x1 μ shapeCasts_S1024_S1024x1) (slope w v))

/-- The slope before the lookup. -/
theorem V_v11 : V m c main_v11 = slope (m ((c : Thread nD τ).loc main_arg1)) (m ((c : Thread nD τ).loc main_arg4)) := by
  show StableHlo.after hostOps0 _ (Proc.devRef .tc main_v11) = _
  after_results
  rfl

/-- The offset before the lookup. -/
theorem V_v15 : V m c main_v15 = offset (m ((c : Thread nD τ).loc main_arg1)) (m ((c : Thread nD τ).loc main_arg2)) (m ((c : Thread nD τ).loc main_arg3)) (m ((c : Thread nD τ).loc main_arg4)) := by
  show StableHlo.after hostOps0 _ (Proc.devRef .tc main_v15) = _
  after_results
  rfl

/-- The slope after the lookup. -/
theorem V_v20 : V m c main_v20 = slope (m ((c : Thread nD τ).loc main_arg5)) (m ((c : Thread nD τ).loc main_arg8)) := by
  show StableHlo.after hostOps0 _ (Proc.devRef .tc main_v20) = _
  after_results
  rfl

/-- The offset after the lookup. -/
theorem V_v24 : V m c main_v24 = offset (m ((c : Thread nD τ).loc main_arg5)) (m ((c : Thread nD τ).loc main_arg6)) (m ((c : Thread nD τ).loc main_arg7)) (m ((c : Thread nD τ).loc main_arg8)) := by
  show StableHlo.after hostOps0 _ (Proc.devRef .tc main_v24) = _
  after_results
  rfl

/-- The slope of a feature. -/
theorem slope_apply (w v : FVec Ideal S1024 .f32) (f : Fin 1024) :
    slope (F := Ideal) w v (ix2 f (0 : Fin 1)) = Ideal.div (w (ix1 f)) (Ideal.sqrt (v (ix1 f) + Ideal.ofBits .f32 0x3727C5AC#32)) := by
  unfold slope
  pointwise

/-- The offset of a feature. -/
theorem offset_apply (w b μ v : FVec Ideal S1024 .f32) (f : Fin 1024) :
    offset (F := Ideal) w b μ v (ix2 f (0 : Fin 1))
      = b (ix1 f) - μ (ix1 f) * Ideal.div (w (ix1 f)) (Ideal.sqrt (v (ix1 f) + Ideal.ofBits .f32 0x3727C5AC#32)) := by
  unfold offset
  pointwise [slope_apply]

/-- Where the blocks of point `t` lie: features `128 t` up to `128 t + 127`; the levels are whole. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = t.val) :=
  (by decide +kernel : ∀ t : Fin grid0.N, _)

variable (t : Fin cfg0.N) (f : Fin 1024) (r : Fin 128) (hf : f.val = t.val * 128 + r.val)
include hf

theorem emb0 (k : Fin 1024) : ((cfg0.win 0).blk t).view.emb (ix2 r k) = ix2 f k := by
  obtain ⟨⟨e0, e1⟩, _⟩ := idx_facts t
  funext a; apply Fin.ext
  match a with
  | ⟨0, _⟩ => show win0_0.index t (0 : Fin 2) * 128 + 1 * r.val = f.val; omega
  | ⟨1, _⟩ => show win0_0.index t (1 : Fin 2) * 1024 + 1 * k.val = k.val; omega

omit hf in
theorem emb1 (k : Fin 128) : ((cfg0.win 1).blk t).view.emb (ix2 (0 : Fin 1) k) = ix2 (0 : Fin 1) k := by
  obtain ⟨_, ⟨e0, e1⟩, _⟩ := idx_facts t
  funext a; apply Fin.ext
  match a with
  | ⟨0, _⟩ => show win0_1.index t (0 : Fin 2) * 1 + 1 * 0 = 0; omega
  | ⟨1, _⟩ => show win0_1.index t (1 : Fin 2) * 128 + 1 * k.val = k.val; omega

theorem emb2 (b : Fin 4096) : ((cfg0.win 2).blk t).view.emb (ix2 b r) = ix2 b f := by
  obtain ⟨_, _, ⟨e0, e1⟩, _⟩ := idx_facts t
  funext a; apply Fin.ext
  match a with
  | ⟨0, _⟩ => show win0_2.index t (0 : Fin 2) * 4096 + 1 * b.val = b.val; omega
  | ⟨1, _⟩ => show win0_2.index t (1 : Fin 2) * 128 + 1 * r.val = f.val; omega

theorem emb3 : ((cfg0.win 3).blk t).view.emb (ix2 r (0 : Fin 1)) = ix2 f (0 : Fin 1) := by
  obtain ⟨_, _, _, ⟨e0, e1⟩, _⟩ := idx_facts t
  funext a; apply Fin.ext
  match a with
  | ⟨0, _⟩ => show win0_3.index t (0 : Fin 2) * 128 + 1 * r.val = f.val; omega
  | ⟨1, _⟩ => show win0_3.index t (1 : Fin 2) * 1 + 1 * 0 = 0; omega

theorem emb4 : ((cfg0.win 4).blk t).view.emb (ix2 r (0 : Fin 1)) = ix2 f (0 : Fin 1) := by
  obtain ⟨_, _, _, _, ⟨e0, e1⟩, _⟩ := idx_facts t
  funext a; apply Fin.ext
  match a with
  | ⟨0, _⟩ => show win0_4.index t (0 : Fin 2) * 128 + 1 * r.val = f.val; omega
  | ⟨1, _⟩ => show win0_4.index t (1 : Fin 2) * 1 + 1 * 0 = 0; omega

theorem emb5 : ((cfg0.win 5).blk t).view.emb (ix2 r (0 : Fin 1)) = ix2 f (0 : Fin 1) := by
  obtain ⟨_, _, _, _, _, ⟨e0, e1⟩, _⟩ := idx_facts t
  funext a; apply Fin.ext
  match a with
  | ⟨0, _⟩ => show win0_5.index t (0 : Fin 2) * 128 + 1 * r.val = f.val; omega
  | ⟨1, _⟩ => show win0_5.index t (1 : Fin 2) * 1 + 1 * 0 = 0; omega

theorem emb6 : ((cfg0.win 6).blk t).view.emb (ix2 r (0 : Fin 1)) = ix2 f (0 : Fin 1) := by
  obtain ⟨_, _, _, _, _, _, ⟨e0, e1⟩, _⟩ := idx_facts t
  funext a; apply Fin.ext
  match a with
  | ⟨0, _⟩ => show win0_6.index t (0 : Fin 2) * 128 + 1 * r.val = f.val; omega
  | ⟨1, _⟩ => show win0_6.index t (1 : Fin 2) * 1 + 1 * 0 = 0; omega

theorem emb7 (b : Fin 4096) : ((cfg0.win 7).blk t).view.emb (ix2 b r) = ix2 b f := by
  obtain ⟨_, _, _, _, _, _, _, ⟨e0, e1⟩⟩ := idx_facts t
  funext a; apply Fin.ext
  match a with
  | ⟨0, _⟩ => show win0_7.index t (0 : Fin 2) * 4096 + 1 * b.val = b.val; omega
  | ⟨1, _⟩ => show win0_7.index t (1 : Fin 2) * 128 + 1 * r.val = f.val; omega

/-- The kernel's result at an index is the tile's value there. -/
theorem final_apply (b : Fin 4096) : (dats m 0 c).arrAt 7 cfg0.N (ix2 b f)
    = Tile.tile (iblk m c 0 t) (iblk m c 1 t) (iblk m c 2 t) (iblk m c 3 t) (iblk m c 4 t) (iblk m c 5 t) (iblk m c 6 t) (ix2 b r) := by
  have h := congrFun (Value.blocks7 m c t (flush0_7 t)) (ix2 b r)
  rw [Value.flushed7_A, out_eq_tile] at h
  have h' : (dats m 0 c).arrAt 7 cfg0.N (((cfg0.win 7).blk t).view.emb (ix2 b r)) = _ := h
  rw [emb7 t f r hf] at h'
  exact h'

end Cert.Proof.Prefix

end
-- ==== Proof.KernelValue.lean ====
/- THE KERNEL'S RESULT AT AN INDEX: A FOLDED SCALING, THE LEVEL OF THE FEATURE'S TABLE, A FOLDED SCALING. -/
module

public import proofs.«01_k».proof.Proof.Prefix

@[expose] public section

set_option maxRecDepth 16384

noncomputable section

namespace Cert.Proof.Prefix

open Cert.KernelIdeal Cert.KernelIdeal.Gen Idealize.ShloMosaic Idealize.ShloMosaic.TcCoe Idealize.SL.Sem
open Cert.Proof.Consts

/-- Entry `k` of a padded row of the context. -/
theorem padded_row_apply (x : FVec Ideal S1024x1000 .f32) (f k : Fin 1024) :
    concatenate S1024x1024 1 [⟨S1024x1000, x⟩,
      ⟨S1024x1, broadcastInDim S1024x1 ![] bcast_S_S1024x1 (constant S_ .f32 0xC2C80000#32)⟩,
      ⟨S1024x1, broadcastInDim S1024x1 ![] bcast_S_S1024x1 (constant S_ .f32 0x42C80000#32)⟩,
      ⟨S1024x22, broadcastInDim S1024x22 ![] bcast_S_S1024x22 (constant S_ .f32 0x7149F2CA#32)⟩]
      concatenates_S1024x1000_S1024x1_S1024x1_S1024x22_S1024x1024_d1 (ix2 f k)
    = Model.wide (Model.entries fun i => x (ix2 f i)) k := by
  unfold Model.wide Model.entries
  by_cases h0 : k.val < 1000
  · rw [dif_pos (by omega), dif_pos h0]
    refine concatenate_apply_piece (t := S1024x1024) 1 _ _ _ 0 (by simp) S1024x1000 _ rfl rfl 0 rfl (ix2 f ⟨k.val, h0⟩) ?_ ?_
    · intro b; match b with
      | ⟨0, _⟩ => intro _; rfl
      | ⟨1, _⟩ => intro h; exact absurd rfl h
    · show 0 + k.val = k.val; omega
  by_cases h1 : k.val = 1000
  · rw [dif_pos (by omega), dif_neg h0, if_pos h1]
    refine (concatenate_apply_piece (t := S1024x1024) 1 _ _ _ 1 (by simp) S1024x1 _ rfl rfl 1000 rfl (ix2 f (0 : Fin 1)) ?_ ?_).trans ?_
    · intro b; match b with
      | ⟨0, _⟩ => intro _; rfl
      | ⟨1, _⟩ => intro h; exact absurd rfl h
    · show 1000 + 0 = k.val; omega
    · exact ofBits_neg_100
  by_cases h2 : k.val = 1001
  · rw [dif_pos (by omega), dif_neg h0, if_neg h1]
    refine (concatenate_apply_piece (t := S1024x1024) 1 _ _ _ 2 (by simp) S1024x1 _ rfl rfl 1001 rfl (ix2 f (0 : Fin 1)) ?_ ?_).trans ?_
    · intro b; match b with
      | ⟨0, _⟩ => intro _; rfl
      | ⟨1, _⟩ => intro h; exact absurd rfl h
    · show 1001 + 0 = k.val; omega
    · exact ofBits_100
  · rw [dif_neg (by omega)]
    refine (concatenate_apply_piece (t := S1024x1024) 1 _ _ _ 3 (by simp) S1024x22 _ rfl rfl 1002 rfl (ix2 f ⟨k.val - 1002, by have := k.isLt; omega⟩) ?_ ?_).trans ?_
    · intro b; match b with
      | ⟨0, _⟩ => intro _; rfl
      | ⟨1, _⟩ => intro h; exact absurd rfl h
    · show 1002 + (k.val - 1002) = k.val; omega
    · exact ofBits_big

/-- Entry `j` of the padded levels, below 102. -/
theorem padded_level_apply (x : FVec Ideal S102 .f32) (j : Fin 128) (hj : j.val < 102) :
    shapeCast S1x128 (concatenate S128 0 [⟨S102, x⟩, ⟨S26, broadcastInDim S26 ![] bcast_S_S26 (constant S_ .f32 0x3F7D70A4#32)⟩]
      concatenates_S102_S26_S128_d0) shapeCasts_S128_S1x128 (ix2 (0 : Fin 1) j) = x (ix1 ⟨j.val, hj⟩) := by
  refine Eq.trans (b := concatenate S128 0 [⟨S102, x⟩, ⟨S26, broadcastInDim S26 ![] bcast_S_S26 (constant S_ .f32 0x3F7D70A4#32)⟩]
      concatenates_S102_S26_S128_d0 (ix1 j)) (by pointwise) ?_
  refine concatenate_apply_piece (t := S128) 0 _ _ _ 0 (by simp) S102 _ rfl rfl 0 rfl (ix1 ⟨j.val, hj⟩) ?_ ?_
  · intro b; match b with
    | ⟨0, _⟩ => intro h; exact absurd rfl h
  · show 0 + j.val = j.val; omega

variable (m : (ℓ : Loc nD τ sig) → Buf (Elt Ideal) ℓ) (c : Dev nD)

/-- The context row of a feature. -/
def ctxOf (f : Fin 1024) (i : Fin 1000) : EReal :=
  (show FVec Ideal S1024x1000 .f32 from m ((c : Thread nD τ).loc main_arg10)) (ix2 f i)

/-- The quantization levels. -/
def levels (j : ℕ) : EReal :=
  if h : j < 102 then (show FVec Ideal S102 .f32 from m ((c : Thread nD τ).loc main_arg9)) (ix1 ⟨j, h⟩) else 0

/-- The folded slope of a feature, of its weight and variance. -/
def slopeOf (w v : FVec Ideal S1024 .f32) (f : Fin 1024) : EReal :=
  Ideal.div (w (ix1 f)) (Ideal.sqrt (v (ix1 f) + Ideal.ofBits .f32 0x3727C5AC#32))

/-- The kernel's result at an index. -/
theorem result_apply (hctx : ∀ f i, ctxOf m c f i ≤ ((big : ℝ) : EReal))
    (hlevel : ∀ i j, i ≤ j → j < 102 → levels m c i ≤ levels m c j) (b : Fin 4096) (f : Fin 1024) :
    (show FVec Ideal S4096x1024 .f32 from (dats m 0 c).arrAt 7 cfg0.N) (ix2 b f)
    = Model.levelOf (ctxOf m c f) (levels m c)
        ((show FVec Ideal S4096x1024 .f32 from m ((c : Thread nD τ).loc main_arg0)) (ix2 b f)
            * slopeOf (m ((c : Thread nD τ).loc main_arg1)) (m ((c : Thread nD τ).loc main_arg4)) f
          + ((show FVec Ideal S1024 .f32 from m ((c : Thread nD τ).loc main_arg2)) (ix1 f)
            - (show FVec Ideal S1024 .f32 from m ((c : Thread nD τ).loc main_arg3)) (ix1 f)
              * slopeOf (m ((c : Thread nD τ).loc main_arg1)) (m ((c : Thread nD τ).loc main_arg4)) f))
        * slopeOf (m ((c : Thread nD τ).loc main_arg5)) (m ((c : Thread nD τ).loc main_arg8)) f
      + ((show FVec Ideal S1024 .f32 from m ((c : Thread nD τ).loc main_arg6)) (ix1 f)
        - (show FVec Ideal S1024 .f32 from m ((c : Thread nD τ).loc main_arg7)) (ix1 f)
          * slopeOf (m ((c : Thread nD τ).loc main_arg5)) (m ((c : Thread nD τ).loc main_arg8)) f) := by
  obtain ⟨t, r, hf⟩ : ∃ (t : Fin cfg0.N) (r : Fin 128), f.val = t.val * 128 + r.val :=
    ⟨⟨f.val / 128, by show f.val / 128 < 8; have := f.isLt; omega⟩, ⟨f.val % 128, Nat.mod_lt _ (by omega)⟩, by
      show f.val = f.val / 128 * 128 + f.val % 128; omega⟩
  have h0 : ∀ k : Fin 1024, iblk m c 0 t (ix2 r k) = Model.wide (Model.entries (ctxOf m c f)) k := by
    intro k
    show V m c main_v3 (((cfg0.win 0).blk t).view.emb (ix2 r k)) = _
    rw [emb0 t f r hf, V_v3]
    exact padded_row_apply _ f k
  have h1 : ∀ j : Fin 128, j.val < 102 → iblk m c 1 t (ix2 (0 : Fin 1) j) = levels m c j.val := by
    intro j hj
    show V m c main_v6 (((cfg0.win 1).blk t).view.emb (ix2 (0 : Fin 1) j)) = _
    rw [emb1 t, V_v6]
    unfold levels
    rw [dif_pos hj]
    exact padded_level_apply _ j hj
  have h2 : iblk m c 2 t (ix2 b r) = (show FVec Ideal S4096x1024 .f32 from m ((c : Thread nD τ).loc main_arg0)) (ix2 b f) := by
    show V m c main_arg0 (((cfg0.win 2).blk t).view.emb (ix2 b r)) = _
    rw [emb2 t f r hf, V_main_arg0]
  have h3 : iblk m c 3 t (ix2 r (0 : Fin 1)) = slopeOf (m ((c : Thread nD τ).loc main_arg1)) (m ((c : Thread nD τ).loc main_arg4)) f := by
    show V m c main_v11 (((cfg0.win 3).blk t).view.emb (ix2 r (0 : Fin 1))) = _
    rw [emb3 t f r hf, V_v11]
    exact slope_apply _ _ f
  have h4 : iblk m c 4 t (ix2 r (0 : Fin 1)) = (show FVec Ideal S1024 .f32 from m ((c : Thread nD τ).loc main_arg2)) (ix1 f)
      - (show FVec Ideal S1024 .f32 from m ((c : Thread nD τ).loc main_arg3)) (ix1 f)
        * slopeOf (m ((c : Thread nD τ).loc main_arg1)) (m ((c : Thread nD τ).loc main_arg4)) f := by
    show V m c main_v15 (((cfg0.win 4).blk t).view.emb (ix2 r (0 : Fin 1))) = _
    rw [emb4 t f r hf, V_v15]
    exact offset_apply _ _ _ _ f
  have h5 : iblk m c 5 t (ix2 r (0 : Fin 1)) = slopeOf (m ((c : Thread nD τ).loc main_arg5)) (m ((c : Thread nD τ).loc main_arg8)) f := by
    show V m c main_v20 (((cfg0.win 5).blk t).view.emb (ix2 r (0 : Fin 1))) = _
    rw [emb5 t f r hf, V_v20]
    exact slope_apply _ _ f
  have h6 : iblk m c 6 t (ix2 r (0 : Fin 1)) = (show FVec Ideal S1024 .f32 from m ((c : Thread nD τ).loc main_arg6)) (ix1 f)
      - (show FVec Ideal S1024 .f32 from m ((c : Thread nD τ).loc main_arg7)) (ix1 f)
        * slopeOf (m ((c : Thread nD τ).loc main_arg5)) (m ((c : Thread nD τ).loc main_arg8)) f := by
    show V m c main_v24 (((cfg0.win 6).blk t).view.emb (ix2 r (0 : Fin 1))) = _
    rw [emb6 t f r hf, V_v24]
    exact offset_apply _ _ _ _ f
  refine (final_apply m c t f r hf b).trans ((Tile.tile_apply _ _ _ _ _ _ _ b r (ctxOf m c f) (levels m c) (hctx f) h0 h1 hlevel).trans ?_)
  rw [h2, h3, h4, h5, h6]

end Cert.Proof.Prefix

end
-- ==== Proof.RefOps.lean ====
/- THE REFERENCE'S OPERATIONS AT AN INDEX. -/
module

public import proofs.«01_k».proof.Proof.Gen.ReferenceIdeal
public import proofs.«01_k».proof.Proof.Words
public import proofs.«01_k».proof.Proof.Rank
public import Idealize.ShloMosaic.Lib.Pointwise
public import Idealize.ShloMosaic.Lib.Pipeline.Value
public import Idealize.ShloMosaic.Lib.ReduceAll
public import Idealize.ShloMosaic.Lib.IndicatorCount
public import Idealize.ShloMosaic.Lib.SortFacts
public import Idealize.ShloMosaic.Lib.ValueIdx

@[expose] public section

set_option maxRecDepth 16384

noncomputable section

namespace Cert.Proof.Ref

open Cert.ReferenceIdeal Cert.ReferenceIdeal.Gen
open Idealize.ShloMosaic Cert.Proof.Consts Cert.Proof.Words

/-- A count of ones along the rows. -/
theorem count_apply (p : IVec S1024x1002 1) (f : Fin 1024) :
    Host.reduce IntOp.addi (extui 32 p natLt_1_32) (constantI S_ 32 0#32) reducesTo_S1024x1002_S1024_d1 h_S_ (ix1 f)
      = BitVec.ofNat 32 (Finset.univ.filter fun i : Fin 1002 => p (ix2 f i) = 1#1).card := by
  pointwise
  exact IndicatorCount.fold_addi_setWidth_eq_card _ _

/-- A count of ones along the last of three axes, of 1002 entries. -/
theorem count3_apply (p : IVec S1024x102x1002 1) (f : Fin 1024) (j : Fin 102) :
    Host.reduce IntOp.addi (extui 32 p natLt_1_32) (constantI S_ 32 0#32) reducesTo_S1024x102x1002_S1024x102_d2 h_S_ (ix2 f j)
      = BitVec.ofNat 32 (Finset.univ.filter fun i : Fin 1002 => p (ix3 f j i) = 1#1).card := by
  pointwise
  exact IndicatorCount.fold_addi_setWidth_eq_card _ _

/-- A count of ones along the last of three axes, of 102 entries. -/
theorem count4_apply (p : IVec S1024x4096x102 1) (f : Fin 1024) (b : Fin 4096) :
    Host.reduce IntOp.addi (extui 32 p natLt_1_32) (constantI S_ 32 0#32) reducesTo_S1024x4096x102_S1024x4096_d2 h_S_ (ix2 f b)
      = BitVec.ofNat 32 (Finset.univ.filter fun j : Fin 102 => p (ix3 f b j) = 1#1).card := by
  pointwise
  exact IndicatorCount.fold_addi_setWidth_eq_card _ _

/-- The dimension numbers of a gather along the rows, one position per result element. -/
abbrev rowDims (R N B : Nat)
    (wf : GatherDims.WF ⟨2, ![R, N]⟩ ⟨3, ![R, B, 1]⟩ ⟨2, ![R, B]⟩ [] [1] [0] [1] [0] 2 ![1, 1]) :
    GatherDims ⟨2, ![R, N]⟩ ⟨3, ![R, B, 1]⟩ ⟨2, ![R, B]⟩ where
  offsetDims := []
  collapsedSliceDims := [1]
  operandBatchingDims := [0]
  startIndicesBatchingDims := [0]
  startIndexMap := [1]
  indexVectorDim := 2
  sliceSizes := ![1, 1]
  wf := wf

/-- A gather along the rows reads, in its own row, the position its index word names. -/
theorem gather_row_apply {R N B : Nat}
    (wf : GatherDims.WF ⟨2, ![R, N]⟩ ⟨3, ![R, B, 1]⟩ ⟨2, ![R, B]⟩ [] [1] [0] [1] [0] 2 ![1, 1])
    (x : (⟨2, ![R, N]⟩ : Shape).Idx → EReal) (idx : IVec ⟨3, ![R, B, 1]⟩ 32) (f : Fin R) (j : Fin B) (p : Fin N)
    (hN : N < 2 ^ 31) (hp : idx (ix3 f j 0) = BitVec.ofNat 32 p.val) :
    Host.gather (rowDims R N B wf) x idx (ix2 f j) = x (ix2 f p) := by
  unfold Host.gather
  congr 1
  funext a
  refine Fin.ext ?_
  show (rowDims R N B wf).start (ix2 f j) idx a + (rowDims R N B wf).batchCoord (ix2 f j) a
      + (rowDims R N B wf).offCoord (ix2 f j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims R N B wf).startIndexMap from List.mem_singleton.mpr rfl)]
    have hsi : (rowDims R N B wf).siIdx (ix2 f j) ⟨List.idxOf (1 : Fin 2) (rowDims R N B wf).startIndexMap,
        List.idxOf_lt_length_iff.2 (List.mem_singleton.mpr rfl)⟩ = ix3 f j 0 := by
      funext b; refine Fin.ext ?_
      match b with
      | ⟨0, _⟩ => rfl
      | ⟨1, _⟩ => rfl
      | ⟨2, _⟩ => rfl
    rw [hsi, hp, toInt_small (by omega)]
    show min ((p.val : Int).toNat) (N - 1) = p.val
    rw [Int.toNat_natCast]
    omega

/-- A selection, read at an index. -/
theorem select_at {s : Shape} {α : Type} (c : IVec s 1) (x y : s.Idx → α) (i : s.Idx) :
    select c x y i = Scalar.select (c i) (x i) (y i) := rfl

/-- A selection on a one takes the first operand. -/
theorem select_one {α : Type} (x y : α) : Scalar.select 1#1 x y = x := rfl

/-- A selection on a zero takes the second operand. -/
theorem select_zero {α : Type} (x y : α) : Scalar.select 0#1 x y = y := rfl

/-- An index word with the negative ones counted from the end, as a start index. -/
def wrapA (i : IVec S1024x1002 32) : IVec S1024x1002x1 32 :=
  shapeCast _ (select (cmpi .slt i (broadcastInDim S1024x1002 ![] bcast_S_S1024x1002 (constantI S_ 32 0#32)))
    (addi i (broadcastInDim S1024x1002 ![] bcast_S_S1024x1002 (constantI S_ 32 1002#32))) i) shapeCasts_S1024x1002_S1024x1002x1

/-- The same for 102 positions of each row. -/
def wrapB (i : IVec S1024x102 32) : IVec S1024x102x1 32 :=
  shapeCast _ (select (cmpi .slt i (broadcastInDim S1024x102 ![] bcast_S_S1024x102 (constantI S_ 32 0#32)))
    (addi i (broadcastInDim S1024x102 ![] bcast_S_S1024x102 (constantI S_ 32 1002#32))) i) shapeCasts_S1024x102_S1024x102x1

/-- A small word is not negative, so the wrapping of negative positions leaves it. -/
theorem wrap_word (m : Nat) (hm : m < 2 ^ 31) (y : BitVec 32) :
    Scalar.select (IntOp.cmpi CmpIPredicate.slt (BitVec.ofNat 32 m) 0#32) y (BitVec.ofNat 32 m) = BitVec.ofNat 32 m := by
  rw [word_slt, toInt_small hm, if_neg (by simp)]
  rfl

/-- A small start index is kept. -/
theorem wrapA_apply (i : IVec S1024x1002 32) (f : Fin 1024) (j : Fin 1002) (k : Fin 1) (m : Nat) (hm : m < 2 ^ 31)
    (h : i (ix2 f j) = BitVec.ofNat 32 m) : wrapA i (ix3 f j k) = BitVec.ofNat 32 m := by
  unfold wrapA
  pointwise [h]
  exact wrap_word m hm _

/-- A small start index is kept, of 102 positions of each row. -/
theorem wrapB_apply (i : IVec S1024x102 32) (f : Fin 1024) (j : Fin 102) (k : Fin 1) (m : Nat) (hm : m < 2 ^ 31)
    (h : i (ix2 f j) = BitVec.ofNat 32 m) : wrapB i (ix3 f j k) = BitVec.ofNat 32 m := by
  unfold wrapB
  pointwise [h]
  exact wrap_word m hm _

/-- A word below 1002 passes both bounds. -/
theorem inside_word (m : Nat) (hm : m < 1002) :
    IntOp.andi (IntOp.cmpi CmpIPredicate.sge (BitVec.ofNat 32 m) 0#32) (IntOp.cmpi CmpIPredicate.sle (BitVec.ofNat 32 m) 1001#32) = 1#1 := by
  have e : (BitVec.ofNat 32 m).toInt = m := toInt_small (by omega)
  rw [word_sge, word_sle, e, if_pos (by rw [show (0#32).toInt = 0 from rfl]; omega),
    if_pos (by rw [show (1001#32).toInt = 1001 from rfl]; omega)]
  rfl

/-- Entries of the rows of `x` at the positions `i`, 1002 of each row. -/
def takeA (x : FVec Ideal S1024x1002 .f32) (i : IVec S1024x1002x1 32) : FVec Ideal S1024x1002 .f32 :=
  select (Host.reduce IntOp.andi (andi (cmpi .sge i (broadcastInDim S1024x1002x1 ![] bcast_S_S1024x1002x1 (constantI S_ 32 0#32))) (cmpi .sle i (broadcastInDim S1024x1002x1 ![0, 1, 2] bcast_S1x1x1_S1024x1002x1_0_1_2 (broadcastInDim S1x1x1 ![2] bcast_S1_S1x1x1_2 (constantI S1 32 1001#32))))) (constantI S_ 1 1#1) reducesTo_S1024x1002x1_S1024x1002_d2 h_S_) (Host.gather gather_S1024x1002_S1024x1002x1_S1024x1002_n_1_0_0_1_2_11 x i) (broadcastInDim S1024x1002 ![] bcast_S_S1024x1002 (constant S_ .f32 0x7FC00000#32))

/-- Entries of the rows of `x` at the positions `i`, 102 of each row. -/
def takeB (x : FVec Ideal S1024x1002 .f32) (i : IVec S1024x102x1 32) : FVec Ideal S1024x102 .f32 :=
  select (Host.reduce IntOp.andi (andi (cmpi .sge i (broadcastInDim S1024x102x1 ![] bcast_S_S1024x102x1 (constantI S_ 32 0#32))) (cmpi .sle i (broadcastInDim S1024x102x1 ![0, 1, 2] bcast_S1x1x1_S1024x102x1_0_1_2 (broadcastInDim S1x1x1 ![2] bcast_S1_S1x1x1_2 (constantI S1 32 1001#32))))) (constantI S_ 1 1#1) reducesTo_S1024x102x1_S1024x102_d2 h_S_) (Host.gather gather_S1024x1002_S1024x102x1_S1024x102_n_1_0_0_1_2_11 x i) (broadcastInDim S1024x102 ![] bcast_S_S1024x102 (constant S_ .f32 0x7FC00000#32))

/-- At positions inside the rows, the entry at the position. -/
theorem takeA_apply (x : FVec Ideal S1024x1002 .f32) (i : IVec S1024x1002 32) (p : Fin 1024 → Fin 1002 → Fin 1002)
    (hi : ∀ f j, i (ix2 f j) = BitVec.ofNat 32 (p f j).val) (f : Fin 1024) (j : Fin 1002) :
    takeA x (wrapA i) (ix2 f j) = x (ix2 f (p f j)) := by
  have hw : ∀ f j k, wrapA i (ix3 f j k) = BitVec.ofNat 32 (p f j).val :=
    fun f j k => wrapA_apply i f j k _ (by omega) (hi f j)
  have hone : Host.reduce IntOp.andi (andi (cmpi .sge (wrapA i) (broadcastInDim S1024x1002x1 ![] bcast_S_S1024x1002x1 (constantI S_ 32 0#32))) (cmpi .sle (wrapA i) (broadcastInDim S1024x1002x1 ![0, 1, 2] bcast_S1x1x1_S1024x1002x1_0_1_2 (broadcastInDim S1x1x1 ![2] bcast_S1_S1x1x1_2 (constantI S1 32 1001#32))))) (constantI S_ 1 1#1) reducesTo_S1024x1002x1_S1024x1002_d2 h_S_ (ix2 f j) = 1#1 := by
    refine Host.reduce_andi_one _ _ _ _ _ rfl fun z => ?_
    obtain ⟨a, b, c, rfl⟩ : ∃ (a : Fin 1024) (b : Fin 1002) (c : Fin 1), z = ix3 a b c := ⟨_, _, _, eq_ix3 z⟩
    show IntOp.andi (IntOp.cmpi .sge (wrapA i _) 0#32) (IntOp.cmpi .sle (wrapA i _) 1001#32) = 1#1
    rw [hw]
    exact inside_word _ (Fin.isLt _)
  unfold takeA
  rw [select_at, hone, select_one]
  exact gather_row_apply _ x (wrapA i) f j (p f j) (by omega) (hw f j 0)

/-- At positions inside the rows, the entry at the position, for 102 positions of each row. -/
theorem takeB_apply (x : FVec Ideal S1024x1002 .f32) (i : IVec S1024x102 32) (p : Fin 1024 → Fin 102 → Fin 1002)
    (hi : ∀ f j, i (ix2 f j) = BitVec.ofNat 32 (p f j).val) (f : Fin 1024) (j : Fin 102) :
    takeB x (wrapB i) (ix2 f j) = x (ix2 f (p f j)) := by
  have hw : ∀ f j k, wrapB i (ix3 f j k) = BitVec.ofNat 32 (p f j).val :=
    fun f j k => wrapB_apply i f j k _ (by omega) (hi f j)
  have hone : Host.reduce IntOp.andi (andi (cmpi .sge (wrapB i) (broadcastInDim S1024x102x1 ![] bcast_S_S1024x102x1 (constantI S_ 32 0#32))) (cmpi .sle (wrapB i) (broadcastInDim S1024x102x1 ![0, 1, 2] bcast_S1x1x1_S1024x102x1_0_1_2 (broadcastInDim S1x1x1 ![2] bcast_S1_S1x1x1_2 (constantI S1 32 1001#32))))) (constantI S_ 1 1#1) reducesTo_S1024x102x1_S1024x102_d2 h_S_ (ix2 f j) = 1#1 := by
    refine Host.reduce_andi_one _ _ _ _ _ rfl fun z => ?_
    obtain ⟨a, b, c, rfl⟩ : ∃ (a : Fin 1024) (b : Fin 102) (c : Fin 1), z = ix3 a b c := ⟨_, _, _, eq_ix3 z⟩
    show IntOp.andi (IntOp.cmpi .sge (wrapB i _) 0#32) (IntOp.cmpi .sle (wrapB i _) 1001#32) = 1#1
    rw [hw]
    exact inside_word _ (Fin.isLt _)
  unfold takeB
  rw [select_at, hone, select_one]
  exact gather_row_apply _ x (wrapB i) f j (p f j) (by omega) (hw f j 0)

/-- The sort of rows with a second operand carried along, read in the second operand at an index. -/
theorem sort2_at {R N : Nat} {α β : Type} (cmp : α × β → α × β → BitVec 1) (x : (⟨2, ![R, N]⟩ : Shape).Idx → α)
    (y : (⟨2, ![R, N]⟩ : Shape).Idx → β) (f : Fin R) (i : Fin N) :
    (Host.sort2 (⟨2, ![R, N]⟩ : Shape) 1 cmp x y).2 (ix2 f i)
      = y (ix2 f (sortedFrom (fun k k' : Fin N => cmp (x (ix2 f k), y (ix2 f k)) (x (ix2 f k'), y (ix2 f k')) == 1#1) i)) := by
  have hal : ∀ k : Fin N, (Shape.Idx.along (s := ⟨2, ![R, N]⟩) (ix2 f i) 1 k) = ix2 f k := by
    intro k
    funext a
    match a with
    | ⟨0, _⟩ => rfl
    | ⟨1, _⟩ => rfl
  unfold Host.sort2
  rw [dif_pos (show 1 < (⟨2, ![R, N]⟩ : Shape).rank from Nat.one_lt_two)]
  refine (congrArg y (hal _)).trans ?_
  congr 2
  show sortedFrom _ i = sortedFrom _ i
  congr 1
  funext k k'
  exact congrArg₂ (fun u v => cmp (x u, y u) (x v, y v) == 1#1) (hal k) (hal k')

/-- The key the sort compares, zero for a zero of either sign and itself otherwise, is the value itself. -/
theorem key_eq (a c : EReal) : Scalar.select (Ideal.cmp .une a a) c
    (Scalar.select (Ideal.cmp .oeq a (FloatOps.ofBits (F := Ideal) .f32 0x00000000#32)) (FloatOps.ofBits (F := Ideal) .f32 0x00000000#32) a) = a := by
  rw [cmp_ne, if_neg (by simp), select_zero, show FloatOps.ofBits (F := Ideal) .f32 0x00000000#32 = (0 : EReal) from ofBits_zero]
  rcases eq_or_ne a 0 with h | h
  · rw [h, show Ideal.cmp .oeq (0 : EReal) 0 = if (0 : EReal) = 0 then 1#1 else 0#1 from ofBool_ite _, if_pos rfl, select_one]
  · rw [show Ideal.cmp .oeq a 0 = if a = 0 then 1#1 else 0#1 from ofBool_ite _, if_neg h, select_zero]

/-- The sort compares by the values' order. -/
theorem before_eq (a b : EReal) (m n : BitVec 32) :
    comparator_f32_i32_d1 (F := Ideal) (a, m) (b, n) = if a < b then 1#1 else 0#1 := by
  refine Eq.trans (show _ = Ideal.cmp .olt
    (Scalar.select (Ideal.cmp .une a a) (FloatOps.ofBits (F := Ideal) .f32 0x7FC00000#32)
    (Scalar.select (Ideal.cmp .oeq a (FloatOps.ofBits (F := Ideal) .f32 0x00000000#32)) (FloatOps.ofBits (F := Ideal) .f32 0x00000000#32) a))
    (Scalar.select (Ideal.cmp .une b b) (FloatOps.ofBits (F := Ideal) .f32 0x7FC00000#32)
    (Scalar.select (Ideal.cmp .oeq b (FloatOps.ofBits (F := Ideal) .f32 0x00000000#32)) (FloatOps.ofBits (F := Ideal) .f32 0x00000000#32) b)) from rfl) ?_
  rw [key_eq, key_eq, cmp_lt]

/-- The positions along the rows, read at an index. -/
theorem iota_at (f : Fin 1024) (i : Fin 1002) : iotaInDim S1024x1002 32 1 (ix2 f i) = BitVec.ofNat 32 i.val := rfl

/-- The words that position a row's entries in ascending order: a permutation that makes the row ascend. -/
theorem sort_apply (x : FVec Ideal S1024x1002 .f32) (f : Fin 1024) :
    ∃ τ : Equiv.Perm (Fin 1002), Monotone ((fun i => x (ix2 f i)) ∘ τ) ∧
      ∀ i, (Host.sort2 S1024x1002 1 comparator_f32_i32_d1 x (iotaInDim S1024x1002 32 1)).2 (ix2 f i) = BitVec.ofNat 32 (τ i).val := by
  obtain ⟨R, hdef⟩ : ∃ R : Fin 1002 → Fin 1002 → Bool, R = fun k k' => comparator_f32_i32_d1 (F := Ideal)
    (x (ix2 f k), iotaInDim S1024x1002 32 1 (ix2 f k)) (x (ix2 f k'), iotaInDim S1024x1002 32 1 (ix2 f k')) == 1#1 := ⟨_, rfl⟩
  have hR : ∀ k k', R k k' = decide (x (ix2 f k) < x (ix2 f k')) := by
    intro k k'
    rw [hdef]
    show (comparator_f32_i32_d1 (F := Ideal) _ _ == 1#1) = _
    rw [before_eq]
    by_cases h : x (ix2 f k) < x (ix2 f k')
    · rw [if_pos h, decide_eq_true h]; rfl
    · rw [if_neg h, decide_eq_false h]; rfl
  have hB : ∀ a b c, R a b = false → R b c = false → R a c = false := by
    intro a b c hab hbc
    rw [hR, decide_eq_false_iff_not, not_lt] at *
    exact hbc.trans hab
  obtain ⟨τ, hτ⟩ : ∃ τ : Equiv.Perm (Fin 1002), ∀ i, τ i = sortedFrom R i :=
    ⟨Equiv.ofBijective (sortedFrom R) ⟨sortedFrom_injective R, sortedFrom_surjective R⟩, fun i => Equiv.ofBijective_apply _ _ i⟩
  refine ⟨τ, ?_, ?_⟩
  · intro i j hij
    rcases hij.eq_or_lt with e | e
    · rw [e]
    · have h := sortedFrom_noInversion R R (fun a b h => by
        rw [hR, decide_eq_true_iff] at h
        rw [hR, decide_eq_false_iff_not, not_lt]
        exact h.le) (fun _ _ h => h) hB i j e
      rw [hR, decide_eq_false_iff_not, not_lt] at h
      show x (ix2 f (τ i)) ≤ x (ix2 f (τ j))
      rw [hτ, hτ]
      exact h
  · intro i
    rw [hτ]
    subst hdef
    exact (sort2_at comparator_f32_i32_d1 x (iotaInDim S1024x1002 32 1) f i).trans (iota_at f _)

/-- A fold of sums from zero, each step adding a value. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A window of values ending at `c`, zero before the first, sums the values up to `c`. -/
theorem sum_window (y : ℕ → EReal) (M c : ℕ) (hc : c ≤ M) :
    ∑ w ∈ Finset.range (M + 1), (if M ≤ c + w then y (c + w - M) else 0) = ∑ i ∈ Finset.range (c + 1), y i := by
  have e : M + 1 = (M - c) + (c + 1) := by omega
  rw [e, Finset.sum_range_add, Finset.sum_eq_zero (fun w hw => if_neg (by rw [Finset.mem_range] at hw; omega)), zero_add]
  refine Finset.sum_congr rfl fun w _ => ?_
  rw [if_pos (by omega)]
  congr 1
  omega

/-- The running sums along the rows: a window of the whole row, padded before the first entry. -/
theorem reduceWindow_row {R M N : Nat} (hN : N = M + 1) (x : (⟨2, ![R, N]⟩ : Shape).Idx → EReal) (init : (⟨0, ![]⟩ : Shape).Idx → EReal)
    (h : (⟨2, ![R, N]⟩ : Shape).ReduceWindows (![1, N] : Fin 2 → Nat) ![1, 1] ![0, M] ![0, 0] ⟨2, ![R, N]⟩)
    (hu : 0 < (⟨0, ![]⟩ : Shape).numel) (hinit : ∀ i, init i = 0) (f : Fin R) (y : ℕ → EReal)
    (hx : ∀ i : Fin N, x (ix2 f i) = y i.val) (c : Fin N) :
    Host.reduceWindow (· + ·) (![1, N] : Fin 2 → Nat) ![1, 1] ![0, M] ![0, 0] x init h hu (ix2 f c)
      = ∑ i ∈ Finset.range (c.val + 1), y i := by
  unfold Host.reduceWindow
  dsimp only
  rw [foldl_add, hinit, zero_add, ← List.ofFn_eq_map, List.sum_ofFn]
  have hc := c.isLt
  refine Eq.trans (Finset.sum_congr rfl fun n _ => (?_ : _ = (fun w : (⟨2, ![1, N]⟩ : Shape).Idx =>
    if M ≤ c.val + (w 1).val then y (c.val + (w 1).val - M) else 0) ((⟨2, ![1, N]⟩ : Shape).rowMajor.symm n))) ?_
  · dsimp only
    have h0 : ((⟨2, ![1, N]⟩ : Shape).rowMajor.symm n 0).val < 1 := ((⟨2, ![1, N]⟩ : Shape).rowMajor.symm n 0).isLt
    have h1 : ((⟨2, ![1, N]⟩ : Shape).rowMajor.symm n 1).val < N := ((⟨2, ![1, N]⟩ : Shape).rowMajor.symm n 1).isLt
    have hf := f.isLt
    by_cases hm : M ≤ c.val + ((⟨2, ![1, N]⟩ : Shape).rowMajor.symm n 1).val
    · rw [if_pos hm, dif_pos (by
        intro a
        match a with
        | ⟨0, _⟩ => show 0 ≤ f.val * 1 + ((⟨2, ![1, N]⟩ : Shape).rowMajor.symm n 0).val ∧ f.val * 1 + ((⟨2, ![1, N]⟩ : Shape).rowMajor.symm n 0).val - 0 < R; omega
        | ⟨1, _⟩ => show M ≤ c.val * 1 + ((⟨2, ![1, N]⟩ : Shape).rowMajor.symm n 1).val ∧ c.val * 1 + ((⟨2, ![1, N]⟩ : Shape).rowMajor.symm n 1).val - M < N; omega)]
      refine (congrArg x (funext fun a => Fin.ext ?_)).trans (hx ⟨c.val + ((⟨2, ![1, N]⟩ : Shape).rowMajor.symm n 1).val - M, by omega⟩)
      match a with
      | ⟨0, _⟩ => show f.val * 1 + ((⟨2, ![1, N]⟩ : Shape).rowMajor.symm n 0).val - 0 = f.val; omega
      | ⟨1, _⟩ => show c.val * 1 + ((⟨2, ![1, N]⟩ : Shape).rowMajor.symm n 1).val - M = c.val + ((⟨2, ![1, N]⟩ : Shape).rowMajor.symm n 1).val - M; omega
    · rw [if_neg hm, dif_neg]
      intro hin
      have := (hin 1).1
      change M ≤ c.val * 1 + ((⟨2, ![1, N]⟩ : Shape).rowMajor.symm n 1).val at this
      omega
  rw [Equiv.sum_comp (⟨2, ![1, N]⟩ : Shape).rowMajor.symm (fun w => if M ≤ c.val + (w 1).val then y (c.val + (w 1).val - M) else 0),
    ValueIdx.sum_idx2]
  rw [Fin.sum_univ_one]
  refine Eq.trans (Fin.sum_univ_eq_sum_range (fun w : ℕ => if M ≤ c.val + w then y (c.val + w - M) else 0) N) ?_
  have e := sum_window y M c.val (by omega)
  rw [← hN] at e
  exact e

/-- The running sums along the rows of 1002 entries. -/
theorem cumsum_apply (x : FVec Ideal S1024x1002 .f32) (f : Fin 1024) (y : ℕ → EReal) (hx : ∀ i : Fin 1002, x (ix2 f i) = y i.val)
    (c : Fin 1002) :
    Host.reduceWindowAdd ![1, 1002] ![1, 1] ![0, 1001] ![0, 0] x
      (broadcastInDim S_ ![] bcast_S_S_ (constant S_ .f32 0x00000000#32)) reduceWindows_S1024x1002_S1024x1002_w1s1p0_0_w1002s1p1001_0 h_S_ (ix2 f c)
      = ∑ i ∈ Finset.range (c.val + 1), y i :=
  reduceWindow_row rfl x (fun _ => (FloatOps.ofBits (F := Ideal) .f32 0x00000000#32))
    reduceWindows_S1024x1002_S1024x1002_w1s1p0_0_w1002s1p1001_0 h_S_ (fun _ => ofBits_zero) f y hx c

end Cert.Proof.Ref

end
-- ==== Proof.RefValue.lean ====
/- THE REFERENCE'S TABLES: THE SORTED ENTRIES OF EACH FEATURE AND THEIR RUNNING WEIGHTS. -/
module

public import proofs.«01_k».proof.Proof.Gen.ReferenceIdeal.Run
public import proofs.«01_k».proof.Proof.RefOps

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.Consts Cert.Proof.Words
open Cert.Proof.Model (entries negCount asc cw reach lo hi quantAt levelOf pick)

variable (V0 : Valuation τ sig (Elt Ideal))

/-- The context of feature `f`. -/
def ctxOf (f : Fin 1024) (i : Fin 1000) : EReal :=
  (show FVec Ideal S1024x1000 .f32 from V0 (Proc.devRef .tc main_arg10)) (ix2 f i)

/-- How many entries of feature `f` are negative. -/
def neg (f : Fin 1024) : ℕ := negCount (entries (ctxOf V0 f))

/-- The joined rows hold the context entries, then -100 and 100. -/
theorem v21_apply (f : Fin 1024) (i : Fin 1002) :
    (show FVec Ideal S1024x1002 .f32 from res_main_v21 V0) (ix2 f i) = entries (ctxOf V0 f) i := by
  have hi := i.isLt
  unfold entries
  by_cases h0 : i.val < 1000
  · rw [dif_pos h0]
    refine (concatenate_apply_piece (t := S1024x1002) 1 _ _ (ix2 f i) 0 (by simp) S1024x1000 _ rfl rfl 0 rfl (ix2 f ⟨i.val, h0⟩) ?_ ?_).trans rfl
    · intro b
      match b with
      | ⟨0, _⟩ => intro _; rfl
      | ⟨1, _⟩ => intro h; exact absurd rfl h
    · exact Nat.zero_add _
  · rw [dif_neg h0]
    by_cases h1 : i.val = 1000
    · rw [if_pos h1]
      refine (concatenate_apply_piece (t := S1024x1002) 1 _ _ (ix2 f i) 1 (by simp) S1024x1 _ rfl rfl 1000 rfl (ix2 f 0) ?_ ?_).trans ?_
      · intro b
        match b with
        | ⟨0, _⟩ => intro _; rfl
        | ⟨1, _⟩ => intro h; exact absurd rfl h
      · exact h1.symm
      · show Ideal.ofBits .f32 0xC2C80000#32 * Ideal.ofBits .f32 0x3F800000#32 = _
        rw [ofBits_neg_100, ofBits_one, ← EReal.coe_mul, mul_one]
    · rw [if_neg h1]
      refine (concatenate_apply_piece (t := S1024x1002) 1 _ _ (ix2 f i) 2 (by simp) S1024x1 _ rfl rfl 1001 rfl (ix2 f 0) ?_ ?_).trans ?_
      · intro b
        match b with
        | ⟨0, _⟩ => intro _; rfl
        | ⟨1, _⟩ => intro h; exact absurd rfl h
      · show 1001 + 0 = i.val
        omega
      · show Ideal.ofBits .f32 0x42C80000#32 * Ideal.ofBits .f32 0x3F800000#32 = _
        rw [ofBits_100, ofBits_one, ← EReal.coe_mul, mul_one]

/-- The mark of the entries that are not negative. -/
theorem v23_apply (f : Fin 1024) (i : Fin 1002) :
    (show IVec S1024x1002 1 from res_main_v23 V0) (ix2 f i) = if 0 ≤ entries (ctxOf V0 f) i then 1#1 else 0#1 := by
  show Ideal.cmp .oge (res_main_v21 V0 (ix2 f i)) (Ideal.ofBits .f32 0x00000000#32) = _
  rw [cmp_ge, ofBits_zero, ← v21_apply V0 f i]

/-- The mark of the negative entries. -/
theorem v25_apply (f : Fin 1024) (i : Fin 1002) :
    (show IVec S1024x1002 1 from res_main_v25 V0) (ix2 f i) = if entries (ctxOf V0 f) i < 0 then 1#1 else 0#1 := by
  show Ideal.cmp .olt (res_main_v21 V0 (ix2 f i)) (Ideal.ofBits .f32 0x00000000#32) = _
  rw [cmp_lt, ofBits_zero, ← v21_apply V0 f i]

/-- A mark is one exactly where its condition holds. -/
theorem mark_eq_one (p : Prop) [Decidable p] : (if p then 1#1 else (0#1 : BitVec 1)) = 1#1 ↔ p := by
  by_cases h : p
  · simp [h]
  · simp [h]

/-- A vector as a column, read at an index. -/
theorem col_apply (c : IVec S1024 32) (f : Fin 1024) :
    broadcastInDim S1024x1 ![0] bcast_S1024_S1024x1_0 c (ix2 f 0) = c (ix1 f) := by
  refine congrArg c (funext fun a => ?_)
  match a with
  | ⟨0, _⟩ => rfl

/-- The count of the negative entries. -/
theorem v31_apply (f : Fin 1024) : (show IVec S1024x1 32 from res_main_v31 V0) (ix2 f 0) = BitVec.ofNat 32 (neg V0 f) := by
  refine (col_apply _ f).trans ((count_apply (res_main_v25 V0) f).trans ?_)
  · unfold neg negCount
    refine congrArg (fun s : Finset (Fin 1002) => BitVec.ofNat 32 s.card) ?_
    ext i
    rw [Finset.mem_filter, Finset.mem_filter]
    exact and_congr_right fun _ => (by rw [← mark_eq_one (entries (ctxOf V0 f) i < 0), ← v25_apply V0 f i])

/-- The count of the other entries. -/
theorem v28_apply (f : Fin 1024) : (show IVec S1024x1 32 from res_main_v28 V0) (ix2 f 0) = BitVec.ofNat 32 (1002 - neg V0 f) := by
  refine (col_apply _ f).trans ((count_apply (res_main_v23 V0) f).trans ?_)
  · congr 1
    have h := Finset.card_filter_add_card_filter_not (s := (Finset.univ : Finset (Fin 1002))) (fun i => entries (ctxOf V0 f) i < 0)
    rw [Finset.card_univ, Fintype.card_fin] at h
    have e : (Finset.univ.filter fun i : Fin 1002 => res_main_v23 V0 (ix2 f i) = 1#1)
        = Finset.univ.filter fun i : Fin 1002 => ¬ entries (ctxOf V0 f) i < 0 := by
      ext i
      rw [Finset.mem_filter, Finset.mem_filter]
      refine and_congr_right fun _ => ?_
      rw [not_lt, ← mark_eq_one (0 ≤ entries (ctxOf V0 f) i), ← v23_apply V0 f i]
    rw [e]
    unfold neg negCount
    omega

/-- The rows in ascending order. -/
theorem exists_order : ∃ τ : Fin 1024 → Equiv.Perm (Fin 1002),
    (∀ f i, entries (ctxOf V0 f) (τ f i) = asc (entries (ctxOf V0 f)) i.val) ∧
    ∀ f i, (show IVec S1024x1002 32 from res_main_v49 V0) (ix2 f i) = BitVec.ofNat 32 (τ f i).val := by
  choose τ hτ hv using fun f => sort_apply (show FVec Ideal S1024x1002 .f32 from res_main_v21 V0) f
  refine ⟨τ, fun f i => ?_, hv⟩
  refine Model.asc_of_perm _ (τ f) ?_ i
  have e : (fun i => (show FVec Ideal S1024x1002 .f32 from res_main_v21 V0) (ix2 f i)) = entries (ctxOf V0 f) :=
    funext fun i => v21_apply V0 f i
  rw [← e]
  exact hτ f

/-- The sorted rows. -/
theorem v50_apply (f : Fin 1024) (i : Fin 1002) :
    (show FVec Ideal S1024x1002 .f32 from res_main_v50 V0) (ix2 f i) = asc (entries (ctxOf V0 f)) i.val := by
  obtain ⟨τ, h1, h2⟩ := exists_order V0
  refine (show _ = takeA (res_main_v21 V0) (wrapA (res_main_v49 V0)) (ix2 f i) from rfl).trans ?_
  rw [takeA_apply _ _ (fun f i => τ f i) h2 f i]
  exact (v21_apply V0 f _).trans (h1 f i)

/-- The weight of each sorted entry. -/
def weight (n i : ℕ) : ℝ := if i < n then 1000 / n else 1000 / (1002 - n)

/-- The running sums of the weights. -/
theorem sum_weight {n : ℕ} (h1 : 1 ≤ n) (c : ℕ) : ∑ i ∈ Finset.range (c + 1), ((weight n i : ℝ) : EReal) = ((cw n c : ℝ) : EReal) := by
  induction c with
  | zero =>
    rw [Finset.sum_range_one]
    unfold weight cw
    rw [if_pos (by omega), if_pos (by omega)]
    congr 1
    push_cast
    ring
  | succ c ih =>
    rw [Finset.sum_range_succ, ih, ← EReal.coe_add]
    congr 1
    have hn : (n : ℝ) ≠ 0 := by
      have : (0 : ℝ) < n := by exact_mod_cast h1
      exact ne_of_gt this
    unfold weight cw
    rcases lt_trichotomy (c + 1) n with h | h | h
    · rw [if_pos (by omega), if_pos h, if_pos h]
      push_cast
      ring
    · rw [if_pos (by omega), if_neg (by omega), if_neg (by omega)]
      rw [← h]
      rw [← h] at hn
      push_cast at hn ⊢
      field_simp
      ring
    · rw [if_neg (by omega), if_neg (by omega), if_neg (by omega)]
      push_cast
      ring

/-- Counting the negative entries of the sorted row tells which of its entries are negative. -/
theorem asc_neg_iff (f : Fin 1024) (i : Fin 1002) : asc (entries (ctxOf V0 f)) i.val < 0 ↔ i.val < neg V0 f := by
  generalize hu : entries (ctxOf V0 f) = u
  have hn : neg V0 f = ((Finset.range 1002).filter fun j => asc u j < 0).card := by
    unfold neg negCount
    rw [hu, Finset.card_filter, Finset.card_filter, ← Fin.sum_univ_eq_sum_range (fun j => if asc u j < 0 then 1 else 0) 1002,
      ← Equiv.sum_comp (Model.order u) (fun i => if u i < 0 then 1 else 0)]
    refine Finset.sum_congr rfl fun j _ => ?_
    rw [Model.asc_of_perm u (Model.order u) (Model.order_mono u) j]
  rw [hn]
  refine (Model.lt_card_iff 1002 (fun j => asc u j < 0) (fun a b hab hb h => ?_) i.val i.isLt).symm
  have ha := Model.asc_of_perm u (Model.order u) (Model.order_mono u) ⟨a, by omega⟩
  have hb' := Model.asc_of_perm u (Model.order u) (Model.order_mono u) ⟨b, hb⟩
  have hm : u (Model.order u ⟨a, by omega⟩) ≤ u (Model.order u ⟨b, hb⟩) := Model.order_mono u (Fin.mk_le_mk.mpr hab)
  rw [ha, hb'] at hm
  exact hm.trans_lt h

/-- The weight of an entry, as written: a thousand shared among the entries of its sign. -/
def weights : FVec Ideal S1024x1002 .f32 :=
  mulf (select (res_main_v23 V0) (Host.divf (uitofp .f32 (res_main_v23 V0)) (broadcastInDim S1024x1002 ![0, 1] bcast_S1024x1_S1024x1002_0_1 (sitofp .f32 (select (cmpi .eq (res_main_v28 V0) (broadcastInDim S1024x1 ![] bcast_S_S1024x1 (constantI S_ 32 0#32))) (broadcastInDim S1024x1 ![] bcast_S_S1024x1 (id (constantI S_ 32 1#32))) (res_main_v28 V0))))) (Host.divf (uitofp .f32 (res_main_v25 V0)) (broadcastInDim S1024x1002 ![0, 1] bcast_S1024x1_S1024x1002_0_1 (sitofp .f32 (select (cmpi .eq (res_main_v31 V0) (broadcastInDim S1024x1 ![] bcast_S_S1024x1 (constantI S_ 32 0#32))) (broadcastInDim S1024x1 ![] bcast_S_S1024x1 (id (constantI S_ 32 1#32))) (res_main_v31 V0)))))) (broadcastInDim S1024x1002 ![] bcast_S_S1024x1002 (constant S_ .f32 0x447A0000#32))

/-- A share: one over a count that is not zero, times a thousand. -/
theorem share_eq (k : ℕ) (h1 : 1 ≤ k) (h2 : k < 2 ^ 31) :
    Ideal.div (((1#1 : BitVec 1).toNat : ℝ) : EReal) (((Scalar.select (IntOp.cmpi .eq (BitVec.ofNat 32 k) 0#32) 1#32 (BitVec.ofNat 32 k)).toInt : ℝ) : EReal)
      * Ideal.ofBits .f32 0x447A0000#32 = ((1000 / k : ℝ) : EReal) := by
  have hk : (k : ℝ) ≠ 0 := by
    have : (0 : ℝ) < k := by exact_mod_cast h1
    exact ne_of_gt this
  have hne : BitVec.ofNat 32 k ≠ 0#32 := by
    intro h
    have := congrArg BitVec.toNat h
    rw [toNat_small h2] at this
    simp at this
    omega
  rw [word_eq, if_neg hne, select_zero, ofBits_1000]
  rw [show (1#1 : BitVec 1).toNat = 1 from rfl, toInt_small h2, Int.cast_natCast, Ideal.div_coe hk, ← EReal.coe_mul, ← EReal.coe_mul]
  congr 1
  push_cast
  ring

/-- The weight of a negative entry and of one that is not. -/
theorem weights_apply (f : Fin 1024) (i : Fin 1002) :
    weights V0 (ix2 f i) = if entries (ctxOf V0 f) i < 0 then ((1000 / (neg V0 f : ℝ) : ℝ) : EReal) else ((1000 / (1002 - neg V0 f : ℝ) : ℝ) : EReal) := by
  have hb := Model.entries_neg (ctxOf V0 f)
  change 1 ≤ neg V0 f ∧ neg V0 f ≤ 1001 at hb
  have e : weights V0 (ix2 f i) = Scalar.select ((show IVec S1024x1002 1 from res_main_v23 V0) (ix2 f i))
      (Ideal.div ((((show IVec S1024x1002 1 from res_main_v23 V0) (ix2 f i)).toNat : ℝ) : EReal)
        (((Scalar.select (IntOp.cmpi .eq ((show IVec S1024x1 32 from res_main_v28 V0) (ix2 f 0)) 0#32) 1#32 ((show IVec S1024x1 32 from res_main_v28 V0) (ix2 f 0))).toInt : ℝ) : EReal))
      (Ideal.div ((((show IVec S1024x1002 1 from res_main_v25 V0) (ix2 f i)).toNat : ℝ) : EReal)
        (((Scalar.select (IntOp.cmpi .eq ((show IVec S1024x1 32 from res_main_v31 V0) (ix2 f 0)) 0#32) 1#32 ((show IVec S1024x1 32 from res_main_v31 V0) (ix2 f 0))).toInt : ℝ) : EReal))
      * Ideal.ofBits .f32 0x447A0000#32 := by
    unfold weights
    pointwise
    rfl
  rw [e, v23_apply, v25_apply, v28_apply, v31_apply]
  by_cases h : entries (ctxOf V0 f) i < 0
  · rw [if_neg (not_le.mpr h), if_pos h, if_pos h, select_zero]
    exact share_eq _ hb.1 (by omega)
  · rw [if_pos (not_lt.mp h), if_neg h, if_neg h, select_one]
    refine (share_eq _ (by omega) (by omega)).trans ?_
    rw [Nat.cast_sub (by omega)]
    norm_num

/-- The running weights of the sorted rows. -/
theorem v52_apply (f : Fin 1024) (c : Fin 1002) :
    (show FVec Ideal S1024x1002 .f32 from res_main_v52 V0) (ix2 f c) = ((cw (neg V0 f) c.val : ℝ) : EReal) := by
  have hb := Model.entries_neg (ctxOf V0 f)
  change 1 ≤ neg V0 f ∧ neg V0 f ≤ 1001 at hb
  obtain ⟨τ, h1, h2⟩ := exists_order V0
  refine (cumsum_apply (takeA (weights V0) (wrapA (res_main_v49 V0))) f (fun i => ((weight (neg V0 f) i : ℝ) : EReal)) (fun i => ?_) c).trans (sum_weight hb.1 c.val)
  rw [takeA_apply _ _ (fun f i => τ f i) h2 f i, weights_apply, h1]
  unfold weight
  by_cases h : i.val < neg V0 f
  · rw [if_pos h, if_pos ((asc_neg_iff V0 f i).mpr h)]
  · rw [if_neg h, if_neg (mt (asc_neg_iff V0 f i).mp h)]

end Cert.Proof.Ref

end
-- ==== Proof.RefOut.lean ====
/- THE REFERENCE'S RESULT AT AN INDEX. -/
module

public import proofs.«01_k».proof.Proof.RefValue

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.Consts Cert.Proof.Words
open Cert.Proof.Model (entries negCount asc cw reach lo hi quantAt levelOf pick)

variable (V0 : Valuation τ sig (Elt Ideal))

/-- The levels. -/
def levels (j : ℕ) : EReal :=
  if h : j < 102 then (show FVec Ideal S102 .f32 from V0 (Proc.devRef .tc main_arg9)) (ix1 ⟨j, h⟩) else 0

/-- A count over `Fin n` of a condition on the position is the count over the range. -/
theorem card_fin (n : ℕ) (p : ℕ → Prop) [DecidablePred p] :
    (Finset.univ.filter fun i : Fin n => p i.val).card = ((Finset.range n).filter p).card := by
  rw [Finset.card_filter, Finset.card_filter, ← Fin.sum_univ_eq_sum_range (fun j => if p j then 1 else 0) n]

/-- The targets. -/
theorem v57_apply (f : Fin 1024) (j : Fin 102) :
    (show FVec Ideal S1024x102 .f32 from res_main_v57 V0) (ix2 f j) = levels V0 j.val * ((2000 : ℝ) : EReal) := by
  have hb := Model.entries_neg (ctxOf V0 f)
  have e : (show FVec Ideal S1024x102 .f32 from res_main_v57 V0) (ix2 f j)
      = (show FVec Ideal S102 .f32 from V0 (Proc.devRef .tc main_arg9)) (ix1 j)
        * (show FVec Ideal S1024x1002 .f32 from res_main_v52 V0) (ix2 f ⟨1001, by decide⟩) := by
    unfold res_main_v57
    pointwise
  rw [e, v52_apply]
  refine (congrArg (fun r : ℝ => _ * (r : EReal)) (Model.cw_last hb.2)).trans ?_
  unfold levels
  rw [dif_pos j.isLt]

/-- How many running weights the target reaches. -/
def at_ (f : Fin 1024) (j : Fin 102) : ℕ := reach (neg V0 f) (levels V0 j.val * ((2000 : ℝ) : EReal))

/-- The count of the running weights up to the target. -/
theorem v64_apply (f : Fin 1024) (j : Fin 102) :
    (show IVec S1024x102 32 from res_main_v64 V0) (ix2 f j) = BitVec.ofNat 32 (at_ V0 f j) := by
  refine (count3_apply _ f j).trans ?_
  unfold at_ reach
  rw [← card_fin]
  refine congrArg (fun s : Finset (Fin 1002) => BitVec.ofNat 32 s.card) ?_
  ext i
  rw [Finset.mem_filter, Finset.mem_filter]
  refine and_congr_right fun _ => ?_
  rw [← mark_eq_one (((cw (neg V0 f) i.val : ℝ) : EReal) ≤ _), ← v52_apply V0 f i, ← v57_apply V0 f j, ← cmp_le]
  refine Eq.congr_left ?_
  pointwise

/-- The position below the target. -/
theorem v67_apply (f : Fin 1024) (j : Fin 102) :
    (show IVec S1024x102 32 from res_main_v67 V0) (ix2 f j) = BitVec.ofNat 32 (lo (at_ V0 f j)) := by
  have hr : at_ V0 f j ≤ 1002 := Model.reach_le _ _
  refine (show _ = IntOp.minsi 999#32 (IntOp.maxsi 0#32 (IntOp.subi ((show IVec S1024x102 32 from res_main_v64 V0) (ix2 f j)) 1#32)) from rfl).trans ?_
  rw [v64_apply]
  have e : IntOp.maxsi 0#32 (IntOp.subi (BitVec.ofNat 32 (at_ V0 f j)) 1#32) = BitVec.ofNat 32 (at_ V0 f j - 1) := by
    generalize at_ V0 f j = a at *
    cases a with
    | zero => rfl
    | succ a =>
      rw [show IntOp.subi (BitVec.ofNat 32 (a + 1)) 1#32 = BitVec.ofNat 32 a from by
        show BitVec.ofNat 32 (a + 1) - 1#32 = _
        rw [BitVec.ofNat_add]
        exact BitVec.add_sub_cancel _ _]
      exact (max_small (m := 0) (by omega) (by omega)).trans (by simp)
  rw [e]
  refine (min_small (m := 999) (by omega) (by omega)).trans ?_
  unfold lo
  rw [min_comm]

/-- The position above the target. -/
theorem v68_apply (f : Fin 1024) (j : Fin 102) :
    (show IVec S1024x102 32 from res_main_v68 V0) (ix2 f j) = BitVec.ofNat 32 (hi (at_ V0 f j)) := by
  have hr : at_ V0 f j ≤ 1002 := Model.reach_le _ _
  refine (show _ = IntOp.minsi 999#32 (IntOp.maxsi 0#32 ((show IVec S1024x102 32 from res_main_v64 V0) (ix2 f j))) from rfl).trans ?_
  rw [v64_apply]
  refine (congrArg (IntOp.minsi 999#32) (max_small (m := 0) (by omega) (by omega))).trans
    ((min_small (m := 999) (by omega) (by omega)).trans ?_)
  unfold hi
  rw [min_comm, Nat.zero_max]

/-- The two positions inside the rows. -/
def loPos (f : Fin 1024) (j : Fin 102) : Fin 1002 := ⟨lo (at_ V0 f j), by unfold lo; omega⟩
def hiPos (f : Fin 1024) (j : Fin 102) : Fin 1002 := ⟨hi (at_ V0 f j), by unfold hi; omega⟩

/-- An entry of a row at the position below the target. -/
theorem lo_apply (x : FVec Ideal S1024x1002 .f32) (f : Fin 1024) (j : Fin 102) :
    takeB x (wrapB (res_main_v67 V0)) (ix2 f j) = x (ix2 f (loPos V0 f j)) :=
  takeB_apply x _ (loPos V0) (v67_apply V0) f j

/-- An entry of a row at the position above the target. -/
theorem hi_apply (x : FVec Ideal S1024x1002 .f32) (f : Fin 1024) (j : Fin 102) :
    takeB x (wrapB (res_main_v68 V0)) (ix2 f j) = x (ix2 f (hiPos V0 f j)) :=
  takeB_apply x _ (hiPos V0) (v68_apply V0) f j

/-- The entries below the target. -/
theorem v69_eq : res_main_v69 V0 = takeB (res_main_v50 V0) (wrapB (res_main_v67 V0)) := rfl

/-- The running weights below the target. -/
theorem v71_eq : res_main_v71 V0 = takeB (res_main_v52 V0) (wrapB (res_main_v67 V0)) := rfl

/-- The quantiles, as written. -/
def quantiles : FVec Ideal S1024x102 .f32 :=
  addf (res_main_v69 V0) (mulf (subf (takeB (res_main_v50 V0) (wrapB (res_main_v68 V0))) (res_main_v69 V0)) (Host.divf (subf (res_main_v57 V0) (res_main_v71 V0)) (addf (subf (takeB (res_main_v52 V0) (wrapB (res_main_v68 V0))) (res_main_v71 V0)) (broadcastInDim S1024x102 ![] bcast_S_S1024x102 (constant S_ .f32 0x358637BD#32)))))

/-- The quantiles are the model's. -/
theorem quantiles_apply (f : Fin 1024) (j : Fin 102) :
    quantiles V0 (ix2 f j) = quantAt (ctxOf V0 f) (levels V0 j.val) := by
  have hb := Model.entries_neg (ctxOf V0 f)
  have e : quantiles V0 (ix2 f j) =
      takeB (res_main_v50 V0) (wrapB (res_main_v67 V0)) (ix2 f j)
        + (takeB (res_main_v50 V0) (wrapB (res_main_v68 V0)) (ix2 f j) - takeB (res_main_v50 V0) (wrapB (res_main_v67 V0)) (ix2 f j))
          * Ideal.div ((show FVec Ideal S1024x102 .f32 from res_main_v57 V0) (ix2 f j) - takeB (res_main_v52 V0) (wrapB (res_main_v67 V0)) (ix2 f j))
            (takeB (res_main_v52 V0) (wrapB (res_main_v68 V0)) (ix2 f j) - takeB (res_main_v52 V0) (wrapB (res_main_v67 V0)) (ix2 f j)
              + Ideal.ofBits .f32 0x358637BD#32) := by
    unfold quantiles
    rw [v69_eq, v71_eq]
    pointwise
  have v50 := fun i => v50_apply V0 f i
  have v52 := fun i => v52_apply V0 f i
  have hg : 0 < 1 / (cw (neg V0 f) (hiPos V0 f j).val - cw (neg V0 f) (loPos V0 f j).val + tiny) := Model.gap_pos hb.1 hb.2 (at_ V0 f j)
  rw [e, lo_apply, lo_apply, hi_apply, hi_apply]
  refine (congrArg₂ (· + ·) (v50 _) (congrArg₂ (· * ·) (congrArg₂ (· - ·) (v50 _) (v50 _)) (congrArg₂ Ideal.div (congrArg₂ (· - ·) (v57_apply V0 f j) (v52 _))
    (congrArg₂ (· + ·) (congrArg₂ (· - ·) (v52 _) (v52 _)) ofBits_tiny)))).trans ?_
  rw [← EReal.coe_sub, ← EReal.coe_add, Ideal.div_coe (one_div_pos.mp hg).ne']
  rfl

/-- The value looked up: the input, centred and scaled, as the reference writes it. -/
def scaled (b : Fin 4096) (f : Fin 1024) : EReal :=
  Ideal.div ((show FVec Ideal S4096x1024 .f32 from V0 (Proc.devRef .tc main_arg0)) (ix2 b f)
      - (show FVec Ideal S1024 .f32 from V0 (Proc.devRef .tc main_arg3)) (ix1 f))
    (Ideal.sqrt ((show FVec Ideal S1024 .f32 from V0 (Proc.devRef .tc main_arg4)) (ix1 f) + Ideal.ofBits .f32 0x3727C5AC#32))
    * (show FVec Ideal S1024 .f32 from V0 (Proc.devRef .tc main_arg1)) (ix1 f)
    + (show FVec Ideal S1024 .f32 from V0 (Proc.devRef .tc main_arg2)) (ix1 f)

/-- The centred and scaled input, as written. -/
def scaledAll : FVec Ideal S4096x1024 .f32 :=
  addf (mulf (Host.divf (subf (V0 (Proc.devRef .tc main_arg0)) (broadcastInDim S4096x1024 ![0, 1] bcast_S1x1024_S4096x1024_0_1 (broadcastInDim S1x1024 ![1] bcast_S1024_S1x1024_1 (V0 (Proc.devRef .tc main_arg3))))) (broadcastInDim S4096x1024 ![0, 1] bcast_S1x1024_S4096x1024_0_1 (broadcastInDim S1x1024 ![1] bcast_S1024_S1x1024_1 (Host.sqrt (addf (V0 (Proc.devRef .tc main_arg4)) (broadcastInDim S1024 ![] bcast_S_S1024 (constant S_ .f32 0x3727C5AC#32))))))) (broadcastInDim S4096x1024 ![0, 1] bcast_S1x1024_S4096x1024_0_1 (broadcastInDim S1x1024 ![1] bcast_S1024_S1x1024_1 (V0 (Proc.devRef .tc main_arg1))))) (broadcastInDim S4096x1024 ![0, 1] bcast_S1x1024_S4096x1024_0_1 (broadcastInDim S1x1024 ![1] bcast_S1024_S1x1024_1 (V0 (Proc.devRef .tc main_arg2))))

/-- The centred and scaled input at an index. -/
theorem scaledAll_apply (b : Fin 4096) (f : Fin 1024) : scaledAll V0 (ix2 b f) = scaled V0 b f := by
  unfold scaledAll scaled
  pointwise

/-- Which quantiles each value reaches, as written. -/
def marks : IVec S1024x4096x102 1 :=
  cmpf .ole (broadcastInDim S1024x4096x102 ![0, 1, 2] bcast_S1024x1x102_S1024x4096x102_0_1_2 (broadcastInDim S1024x1x102 ![0, 2] bcast_S1024x102_S1024x1x102_0_2 (quantiles V0))) (broadcastInDim S1024x4096x102 ![0, 1, 2] bcast_S1024x4096x1_S1024x4096x102_0_1_2 (broadcastInDim S1024x4096x1 ![0, 1] bcast_S1024x4096_S1024x4096x1_0_1 (transpose S1024x4096 [1, 0] (scaledAll V0) transposes_S4096x1024_S1024x4096_1_0)))

/-- A mark is one where the quantile is at most the value. -/
theorem marks_apply (f : Fin 1024) (b : Fin 4096) (j : Fin 102) :
    marks V0 (ix3 f b j) = if quantAt (ctxOf V0 f) (levels V0 j.val) ≤ scaled V0 b f then 1#1 else 0#1 := by
  rw [← quantiles_apply V0 f j, ← scaledAll_apply V0 b f, ← cmp_le]
  unfold marks
  pointwise

/-- The position in the table, as written. -/
theorem v89_eq : res_main_v89 V0 = minsi (broadcastInDim S1024x4096 ![] bcast_S_S1024x4096 (id (constantI S_ 32 101#32))) (maxsi (broadcastInDim S1024x4096 ![] bcast_S_S1024x4096 (id (constantI S_ 32 0#32))) (Host.reduce IntOp.addi (extui 32 (marks V0) natLt_1_32) (constantI S_ 32 0#32) reducesTo_S1024x4096x102_S1024x4096_d2 h_S_)) := by
  unfold res_main_v89 marks quantiles scaledAll
  rfl

/-- The position in the table of levels. -/
theorem v89_apply (f : Fin 1024) (b : Fin 4096) :
    (show IVec S1024x4096 32 from res_main_v89 V0) (ix2 f b)
      = BitVec.ofNat 32 (pick (fun j => quantAt (ctxOf V0 f) (levels V0 j)) (scaled V0 b f)) := by
  rw [v89_eq]
  refine (show _ = IntOp.minsi 101#32 (IntOp.maxsi 0#32 (Host.reduce IntOp.addi (extui 32 (marks V0) natLt_1_32) (constantI S_ 32 0#32) reducesTo_S1024x4096x102_S1024x4096_d2 h_S_ (ix2 f b))) from rfl).trans ?_
  rw [count4_apply]
  have hc : (Finset.univ.filter fun j : Fin 102 => quantAt (ctxOf V0 f) (levels V0 j.val) ≤ scaled V0 b f).card ≤ 102 :=
    (Finset.card_filter_le _ _).trans (by simp)
  refine Eq.trans (congrArg (fun s : Finset (Fin 102) => IntOp.minsi 101#32 (IntOp.maxsi 0#32 (BitVec.ofNat 32 s.card)))
    (?_ : _ = Finset.univ.filter fun j : Fin 102 => quantAt (ctxOf V0 f) (levels V0 j.val) ≤ scaled V0 b f)) ?_
  · ext j
    rw [Finset.mem_filter, Finset.mem_filter, marks_apply, mark_eq_one]
  · refine (congrArg (IntOp.minsi 101#32) (max_small (m := 0) (by omega) (by omega))).trans
      ((min_small (m := 101) (by omega) (by omega)).trans ?_)
    unfold pick
    rw [min_comm, Nat.zero_max, ← card_fin]

/-- The position in the table is kept as a start index. -/
def levelIdx : IVec S1024x4096x1 32 :=
  broadcastInDim S1024x4096x1 ![0, 1] bcast_S1024x4096_S1024x4096x1_0_1 (select (cmpi .slt (res_main_v89 V0) (broadcastInDim S1024x4096 ![] bcast_S_S1024x4096 (constantI S_ 32 0#32))) (addi (res_main_v89 V0) (broadcastInDim S1024x4096 ![] bcast_S_S1024x4096 (constantI S_ 32 102#32))) (res_main_v89 V0))

theorem levelIdx_apply (f : Fin 1024) (b : Fin 4096) (k : Fin 1) :
    levelIdx V0 (ix3 f b k) = BitVec.ofNat 32 (pick (fun j => quantAt (ctxOf V0 f) (levels V0 j)) (scaled V0 b f)) := by
  have hp : pick (fun j => quantAt (ctxOf V0 f) (levels V0 j)) (scaled V0 b f) ≤ 101 := min_le_right _ _
  unfold levelIdx
  pointwise [v89_apply V0 f b]
  exact wrap_word _ (by omega) _

/-- The level looked up. -/
theorem level_apply (f : Fin 1024) (b : Fin 4096) :
    Host.gather gather_S102_S1024x4096x1_S1024x4096_n_0_n_n_0_2_1 (V0 (Proc.devRef .tc main_arg9)) (levelIdx V0) (ix2 f b)
      = levelOf (ctxOf V0 f) (levels V0) (scaled V0 b f) := by
  have hp : pick (fun j => quantAt (ctxOf V0 f) (levels V0 j)) (scaled V0 b f) ≤ 101 := min_le_right _ _
  refine (ValueIdx.gather_take_apply (by decide) _ (show FVec Ideal S102 .f32 from V0 (Proc.devRef .tc main_arg9)) (levelIdx V0) (ix2 f b)).trans ?_
  have h : levelIdx V0 (ValueIdx.takeIdx (ix2 f b)) = BitVec.ofNat 32 (pick (fun j => quantAt (ctxOf V0 f) (levels V0 j)) (scaled V0 b f)) := by
    refine Eq.trans (congrArg (levelIdx V0) (funext fun a => ?_)) (levelIdx_apply V0 f b 0)
    match a with
    | ⟨0, _⟩ => rfl
    | ⟨1, _⟩ => rfl
    | ⟨2, _⟩ => rfl
  unfold levelOf
  rw [levels, dif_pos (show pick (fun j => quantAt (ctxOf V0 f) (levels V0 j)) (scaled V0 b f) < 102 by omega)]
  refine congrArg _ (congrArg ix1 (Fin.ext ?_))
  show min (levelIdx V0 (ValueIdx.takeIdx (ix2 f b))).toInt.toNat 101 = pick (fun j => quantAt (ctxOf V0 f) (levels V0 j)) (scaled V0 b f)
  rw [h, toInt_small (by omega), Int.toNat_natCast]
  omega

/-- The reference's result, as written. -/
def result : FVec Ideal S4096x1024 .f32 :=
  addf (mulf (Host.divf (subf (transpose S4096x1024 [1, 0] (Host.gather gather_S102_S1024x4096x1_S1024x4096_n_0_n_n_0_2_1 (V0 (Proc.devRef .tc main_arg9)) (broadcastInDim S1024x4096x1 ![0, 1] bcast_S1024x4096_S1024x4096x1_0_1 (select (cmpi .slt (res_main_v89 V0) (broadcastInDim S1024x4096 ![] bcast_S_S1024x4096 (constantI S_ 32 0#32))) (addi (res_main_v89 V0) (broadcastInDim S1024x4096 ![] bcast_S_S1024x4096 (constantI S_ 32 102#32))) (res_main_v89 V0)))) transposes_S1024x4096_S4096x1024_1_0) (broadcastInDim S4096x1024 ![0, 1] bcast_S1x1024_S4096x1024_0_1 (broadcastInDim S1x1024 ![1] bcast_S1024_S1x1024_1 (V0 (Proc.devRef .tc main_arg7))))) (broadcastInDim S4096x1024 ![0, 1] bcast_S1x1024_S4096x1024_0_1 (broadcastInDim S1x1024 ![1] bcast_S1024_S1x1024_1 (Host.sqrt (addf (V0 (Proc.devRef .tc main_arg8)) (broadcastInDim S1024 ![] bcast_S_S1024 (constant S_ .f32 0x3727C5AC#32))))))) (broadcastInDim S4096x1024 ![0, 1] bcast_S1x1024_S4096x1024_0_1 (broadcastInDim S1x1024 ![1] bcast_S1024_S1x1024_1 (V0 (Proc.devRef .tc main_arg5))))) (broadcastInDim S4096x1024 ![0, 1] bcast_S1x1024_S4096x1024_0_1 (broadcastInDim S1x1024 ![1] bcast_S1024_S1x1024_1 (V0 (Proc.devRef .tc main_arg6))))

/-- The reference's result at an index: the level whose quantile the scaled input reaches, centred and scaled. -/
theorem result_apply (b : Fin 4096) (f : Fin 1024) :
    result V0 (ix2 b f) =
      Ideal.div (levelOf (ctxOf V0 f) (levels V0) (scaled V0 b f) - (show FVec Ideal S1024 .f32 from V0 (Proc.devRef .tc main_arg7)) (ix1 f))
        (Ideal.sqrt ((show FVec Ideal S1024 .f32 from V0 (Proc.devRef .tc main_arg8)) (ix1 f) + Ideal.ofBits .f32 0x3727C5AC#32))
        * (show FVec Ideal S1024 .f32 from V0 (Proc.devRef .tc main_arg5)) (ix1 f)
        + (show FVec Ideal S1024 .f32 from V0 (Proc.devRef .tc main_arg6)) (ix1 f) := by
  rw [← level_apply]
  unfold result levelIdx
  pointwise

end Cert.Proof.Ref

end
-- ==== Proof.Pre.lean ====
/- WHAT THE PRECONDITION SAYS OF THE ARGUMENTS, ELEMENT BY ELEMENT. -/
module

public import proofs.«01_k».proof.Proof.Gen.Pre_admissible
public import proofs.«01_k».proof.Proof.Words
public import proofs.«01_k».proof.Proof.Consts
public import Idealize.ShloMosaic.Lib.ReduceAll
public import Idealize.ShloMosaic.Lib.Affine
public import Idealize.ShloMosaic.Lib.ValueIdx

@[expose] public section

set_option maxRecDepth 16384

noncomputable section

namespace Cert.Proof.Pre

open Cert.Pre_admissible Cert.Pre_admissible.Facts Idealize.ShloMosaic Cert.Proof.Consts Cert.Proof.Words

/-- A number whose absolute value is below infinity is real. -/
theorem real_of_abs {x : EReal} (h : Ideal.cmp .olt (max x (-x)) (Ideal.ofBits .f32 0x7F800000#32) = 1#1) : ∃ w : ℝ, x = (w : EReal) := by
  have htop : Ideal.ofBits .f32 0x7F800000#32 = ⊤ := by simp [Ideal.ofBits, Ideal.ieee]
  rw [cmp_lt, htop] at h
  have h' : max x (-x) < ⊤ := by
    by_contra hn
    rw [if_neg hn] at h
    exact absurd h (by decide)
  rw [max_lt_iff] at h'
  induction x with
  | bot => exact absurd h'.2 (by simp)
  | top => exact absurd h'.1 (by simp)
  | coe w => exact ⟨w, rfl⟩

instance : Subsingleton S_.Idx := ⟨fun a b => funext fun i => i.elim0⟩

variable [Facts]

/-- The elements of a vector found finite are real. -/
theorem finite_apply (x : FVec Ideal S1024 .f32) (i : S_.Idx)
    (h : Host.reduce IntOp.andi (cmpf .olt (Host.absf x) (broadcastInDim S1024 ![] bcast_S_S1024 (constant S_ .f32 0x7F800000#32))) (constantI S_ 1 1#1)
      reducesTo_S1024_S_d0 h_S_ i = 1#1) (f : Fin 1024) : ∃ w : ℝ, x (ix1 f) = (w : EReal) :=
  real_of_abs (Host.reduce_andi_all _ _ _ _ i h (ix1 f))

/-- The square root of a number other than zero is not zero. -/
theorem sqrt_ne_zero {s : EReal} (h : s ≠ 0) : Ideal.sqrt s ≠ 0 := by
  induction s with
  | bot => rw [Ideal.sqrt_bot]; exact EReal.bot_ne_zero
  | top => rw [Ideal.sqrt_top]; exact EReal.top_ne_zero
  | coe r =>
    rw [Ideal.sqrt_coe]
    split
    · exact EReal.bot_ne_zero
    · rename_i hr
      have hr0 : r ≠ 0 := fun h0 => h (by rw [h0]; rfl)
      have hp : 0 < r := lt_of_le_of_ne (not_lt.1 hr) hr0.symm
      exact fun h0 => absurd (EReal.coe_eq_zero.1 h0) (Real.sqrt_ne_zero'.2 hp)

/-- The two slices of the levels, at an index. -/
theorem head_apply (x : FVec Ideal S102 .f32) (j : Fin 101) :
    extractStridedSlice S101 ![0] x slices_S102_S101_0 (ix1 j) = x (ix1 j.castSucc) := by
  unfold extractStridedSlice
  congr 1
  funext a
  match a with
  | ⟨0, _⟩ => exact Fin.ext (Nat.zero_add _)

theorem tail_apply (x : FVec Ideal S102 .f32) (j : Fin 101) :
    extractStridedSlice S101 ![1] x slices_S102_S101_1 (ix1 j) = x (ix1 j.succ) := by
  unfold extractStridedSlice
  congr 1
  funext a
  match a with
  | ⟨0, _⟩ => exact Fin.ext (Nat.add_comm _ _)

/-- The sums found nonzero are nonzero. -/
theorem nonzero_apply (x : FVec Ideal S1024 .f32) (i : S_.Idx)
    (h : Host.reduce IntOp.andi (cmpf .une (addf x (broadcastInDim S1024 ![] bcast_S_S1024 (constant S_ .f32 0x3727C5AC#32)))
      (broadcastInDim S1024 ![] bcast_S_S1024 (constant S_ .f32 0x00000000#32))) (constantI S_ 1 1#1)
      reducesTo_S1024_S_d0 h_S_ i = 1#1) (f : Fin 1024) : Ideal.sqrt (x (ix1 f) + Ideal.ofBits .f32 0x3727C5AC#32) ≠ 0 := by
  have e : Ideal.cmp .une (x (ix1 f) + Ideal.ofBits .f32 0x3727C5AC#32) (Ideal.ofBits .f32 0x00000000#32) = 1#1 :=
    Host.reduce_andi_all _ _ _ _ i h (ix1 f)
  rw [cmp_ne, ofBits_zero] at e
  have e' : x (ix1 f) + Ideal.ofBits .f32 0x3727C5AC#32 ≠ 0 := by
    intro hn
    rw [if_neg (not_not.2 hn)] at e
    exact absurd e (by decide)
  exact sqrt_ne_zero e'

/-- The precondition, read: the context is at most the filler; the levels ascend; weights and means are real; no variance
    plus its floor is zero. -/
theorem unpack (a0 : FVec Ideal S4096x1024 .f32) (a1 a2 a3 a4 a5 a6 a7 a8 : FVec Ideal S1024 .f32) (a9 : FVec Ideal S102 .f32)
    (a10 : FVec Ideal S1024x1000 .f32) (i : S_.Idx) (h : Cert.Pre_admissible.fn (F := Ideal) a0 a1 a2 a3 a4 a5 a6 a7 a8 a9 a10 i = 1#1) :
    (∀ (f : Fin 1024) (k : Fin 1000), a10 (ix2 f k) ≤ ((big : ℝ) : EReal))
    ∧ (∀ (j : Fin 101), a9 (ix1 j.castSucc) ≤ a9 (ix1 j.succ))
    ∧ (∀ f : Fin 1024, ∃ w : ℝ, a1 (ix1 f) = (w : EReal)) ∧ (∀ f : Fin 1024, ∃ w : ℝ, a3 (ix1 f) = (w : EReal))
    ∧ (∀ f : Fin 1024, ∃ w : ℝ, a5 (ix1 f) = (w : EReal)) ∧ (∀ f : Fin 1024, ∃ w : ℝ, a7 (ix1 f) = (w : EReal))
    ∧ (∀ f : Fin 1024, Ideal.sqrt (a4 (ix1 f) + Ideal.ofBits .f32 0x3727C5AC#32) ≠ 0)
    ∧ (∀ f : Fin 1024, Ideal.sqrt (a8 (ix1 f) + Ideal.ofBits .f32 0x3727C5AC#32) ≠ 0) := by
  unfold Cert.Pre_admissible.fn fn_part1 fn_part2 at h
  obtain ⟨hA, hB⟩ := IntOp.andi_eq_one.1 h
  obtain ⟨h10, h9⟩ := IntOp.andi_eq_one.1 hA
  obtain ⟨hC, hD⟩ := IntOp.andi_eq_one.1 hB
  obtain ⟨hE, hF⟩ := IntOp.andi_eq_one.1 hC
  obtain ⟨h1, h3⟩ := IntOp.andi_eq_one.1 hE
  obtain ⟨h5, h7⟩ := IntOp.andi_eq_one.1 hF
  obtain ⟨h4, h8⟩ := IntOp.andi_eq_one.1 hD
  refine ⟨fun f k => ?_, fun j => ?_, finite_apply a1 i h1, finite_apply a3 i h3, finite_apply a5 i h5, finite_apply a7 i h7,
    nonzero_apply a4 i h4, nonzero_apply a8 i h8⟩
  · have e : Ideal.cmp .ole (a10 (ix2 f k)) (Ideal.ofBits .f32 0x7149F2CA#32) = 1#1 :=
      Host.reduce_andi_all _ _ _ _ i h10 (ix2 f k)
    rw [cmp_le, ofBits_big] at e
    by_contra hn
    rw [if_neg hn] at e
    exact absurd e (by decide)
  · have e := Host.reduce_andi_all _ _ _ _ i h9 (ix1 j)
    have e1 : Ideal.cmp .ole (extractStridedSlice S101 ![0] a9 slices_S102_S101_0 (ix1 j)) (extractStridedSlice S101 ![1] a9 slices_S102_S101_1 (ix1 j)) = 1#1 := e
    rw [head_apply, tail_apply, cmp_le] at e1
    by_contra hn
    rw [if_neg hn] at e1
    exact absurd e1 (by decide)

end Cert.Proof.Pre

end
-- ==== Proof.Equal.lean ====
/- THE KERNEL'S RESULT IS THE REFERENCE'S: BOTH AT AN INDEX, THE TWO FOLDED SCALINGS OPENED. -/
module

public import proofs.«01_k».proof.Defs
public import proofs.«01_k».proof.Proof.KernelValue
public import proofs.«01_k».proof.Proof.RefOut
public import proofs.«01_k».proof.Proof.Pre

@[expose] public section

set_option maxRecDepth 16384

noncomputable section

namespace Cert.Proof.Equal

open Idealize.ShloMosaic Idealize.ShloMosaic.TcCoe Idealize.SL.Sem Cert.Proof.Consts
open Idealize.ShloMosaic.StableHlo (launchContents)
open Cert.KernelIdeal (nD τ sig main_arg0 main_arg1 main_arg2 main_arg3 main_arg4 main_arg5 main_arg6 main_arg7 main_arg8 main_arg9 main_arg10)

/-- Levels that do not descend at any step do not descend. -/
theorem levels_mono (x : Fin 102 → EReal) (h : ∀ j : Fin 101, x j.castSucc ≤ x j.succ) (level : ℕ → EReal)
    (hl : ∀ (j : ℕ) (hj : j < 102), level j = x ⟨j, hj⟩) (i j : ℕ) (hij : i ≤ j) (hj : j < 102) : level i ≤ level j := by
  induction j, hij using Nat.le_induction with
  | base => exact le_rfl
  | succ j _ ih =>
    refine (ih (by omega)).trans ?_
    rw [hl j (by omega), hl (j + 1) hj]
    exact h ⟨j, by omega⟩

/-- Equal numbers, centred, scaled and shifted, are the folded scaling: for a real mean and weight and a nonzero deviation. -/
theorem fold_eq {x b μ w v x' b' μ' w' v' : EReal} (hw : ∃ r : ℝ, w = (r : EReal)) (hμ : ∃ r : ℝ, μ = (r : EReal))
    (hs : Ideal.sqrt (v + Ideal.ofBits .f32 0x3727C5AC#32) ≠ 0) (ex : x' = x) (eb : b' = b) (eμ : μ' = μ) (ew : w' = w) (ev : v' = v) :
    Ideal.div (x' - μ') (Ideal.sqrt (v' + Ideal.ofBits .f32 0x3727C5AC#32)) * w' + b'
      = x * Ideal.div w (Ideal.sqrt (v + Ideal.ofBits .f32 0x3727C5AC#32))
        + (b - μ * Ideal.div w (Ideal.sqrt (v + Ideal.ofBits .f32 0x3727C5AC#32))) := by
  subst ex eb eμ ew ev
  obtain ⟨w, rfl⟩ := hw
  obtain ⟨μ, rfl⟩ := hμ
  exact (Model.scale_eq _ _ μ w hs).symm

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- From equal arguments that meet the precondition, the kernel's result array is the reference's. -/
theorem result_eq
    (hpre : letI := Cert.Pre_admissible.Gen.facts; Cert.Pre_KernelIdeal_admissible m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Ref.result (launchContents m' c)
      = (show FVec Ideal Cert.ReferenceIdeal.S4096x1024 .f32 from (Cert.KernelIdeal.Gen.dats m 0 c).arrAt 7 Cert.KernelIdeal.cfg0.N) := by
  letI := Cert.Pre_admissible.Gen.facts
  obtain ⟨p10, p9, p1, p3, p5, p7, p4, p8⟩ := Pre.unpack _ _ _ _ _ _ _ _ _ _ _ (fun a => a.elim0) (congrFun (hpre c) (fun a => a.elim0))
  have hc : ∀ f, Ref.ctxOf (launchContents m' c) f = Prefix.ctxOf m c f := fun f => funext fun i => congrFun h10 (ix2 f i)
  have hl : Ref.levels (launchContents m' c) = Prefix.levels m c := by
    funext j
    unfold Ref.levels Prefix.levels
    by_cases hj : j < 102
    · rw [dif_pos hj, dif_pos hj]
      exact congrFun h9 (ix1 ⟨j, hj⟩)
    · rw [dif_neg hj, dif_neg hj]
  have hm : ∀ i j, i ≤ j → j < 102 → Prefix.levels m c i ≤ Prefix.levels m c j :=
    levels_mono (fun j => (show FVec Ideal Cert.KernelIdeal.S102 .f32 from m ((c.tc : Thread nD τ).loc main_arg9)) (ix1 j)) p9 _ fun j hj => dif_pos hj
  funext z
  obtain ⟨b, f, rfl⟩ : ∃ (b : Fin 4096) (f : Fin 1024), z = ix2 b f := ⟨_, _, eq_ix2 z⟩
  refine (Ref.result_apply _ b f).trans (Eq.trans ?_ (Prefix.result_apply m c p10 hm b f).symm)
  have hs : Ref.scaled (launchContents m' c) b f
      = (show FVec Ideal Cert.KernelIdeal.S4096x1024 .f32 from m ((c : Thread nD τ).loc main_arg0)) (ix2 b f)
            * Prefix.slopeOf (m ((c : Thread nD τ).loc main_arg1)) (m ((c : Thread nD τ).loc main_arg4)) f
          + ((show FVec Ideal Cert.KernelIdeal.S1024 .f32 from m ((c : Thread nD τ).loc main_arg2)) (ix1 f)
            - (show FVec Ideal Cert.KernelIdeal.S1024 .f32 from m ((c : Thread nD τ).loc main_arg3)) (ix1 f)
              * Prefix.slopeOf (m ((c : Thread nD τ).loc main_arg1)) (m ((c : Thread nD τ).loc main_arg4)) f) := by
    exact fold_eq (p1 f) (p3 f) (p4 f) (congrFun h0 (ix2 b f)) (congrFun h2 (ix1 f)) (congrFun h3 (ix1 f)) (congrFun h1 (ix1 f))
      (congrFun h4 (ix1 f))
  rw [hc f, hl, hs]
  generalize Model.levelOf _ _ _ = L
  exact fold_eq (p5 f) (p7 f) (p8 f) rfl (congrFun h6 (ix1 f)) (congrFun h7 (ix1 f)) (congrFun h5 (ix1 f)) (congrFun h8 (ix1 f))

end Cert.Proof.Equal

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_admissible
public import proofs.«01_k».proof.Proof.Equal
public import Idealize.ShloMosaic.Lib.Claim

@[expose] public section

noncomputable section

namespace Cert.Proof

open Idealize.ShloMosaic
open Idealize.ShloMosaic.TcCoe
open Idealize.SL.Sem

/-- The reference's frame: it has no semaphore, and its run leaves its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference end with equal results and unchanged arguments. -/
theorem algebraic : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) :=
  fun m ρ m' ρ' hpre hag => ⟨fun c => (Cert.KernelIdeal.Gen.dats m 0 c).arrAt 7 Cert.KernelIdeal.cfg0.N,
    Cert.KernelIdeal.Value.run_blocks (F := Ideal) m ρ,
    (θ_run Cert.ReferenceIdeal.defs _ _).mono (fun r h c => ⟨(h c).1.trans (by
        obtain ⟨h0, h1, h2, h3, h4, h5, h6, h7, h8, h9, h10⟩ := hag c
        exact Equal.result_eq m m' c hpre h0 h1 h2 h3 h4 h5 h6 h7 h8 h9 h10), (h c).2⟩)
      (Cert.ReferenceIdeal.Value.run (F := Ideal) m' ρ')⟩

/-- `Cert.Claim`: its conjuncts together. -/
theorem claim : Cert.Claim := ⟨Cert.Kernel.Gen.facts, Cert.KernelIdeal.Gen.facts, Cert.ReferenceIdeal.Gen.facts, Cert.Pre_admissible.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
